-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_range [hPre_bf16_range : Cert.Pre_bf16_range.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_bf16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_range [hPre_bf16_range : Cert.Pre_bf16_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_bf16_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bf16_range [hKernelIdeal : Cert.KernelIdeal.Facts] [hPre_bf16_range : Cert.Pre_bf16_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bf16_range [hReferenceIdeal : Cert.ReferenceIdeal.Facts] [hPre_bf16_range : Cert.Pre_bf16_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_bf16_range [hKernelIdeal : Cert.KernelIdeal.Facts] [hReferenceIdeal : Cert.ReferenceIdeal.Facts] [hPre_bf16_range : Cert.Pre_bf16_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_bf16_range : Cert.Pre_bf16_range.Facts),
    quiescent_Kernel (hKernel := hKernel)
    ∧ quiescent_KernelIdeal (hKernelIdeal := hKernelIdeal)
    ∧ quiescent_KernelIdeal_pre_bf16_range (hKernelIdeal := hKernelIdeal) (hPre_bf16_range := hPre_bf16_range)
    ∧ quiescent_ReferenceIdeal (hReferenceIdeal := hReferenceIdeal)
    ∧ quiescent_ReferenceIdeal_pre_bf16_range (hReferenceIdeal := hReferenceIdeal) (hPre_bf16_range := hPre_bf16_range)
    ∧ preserves_Kernel_KernelIdeal
    ∧ algebraic_KernelIdeal_ReferenceIdeal_pre_bf16_range (hKernelIdeal := hKernelIdeal) (hReferenceIdeal := hReferenceIdeal) (hPre_bf16_range := hPre_bf16_range)
-- ==== Pre_bf16_range.lean ====
abbrev S4x6144x4608 : Shape := ⟨3, ![4, 6144, 4608]⟩
abbrev S4x6144x1792 : Shape := ⟨3, ![4, 6144, 1792]⟩
abbrev S_ : Shape := ⟨0, ![]⟩

class Facts : Prop where
  bitsLt_bf16_f32 : FTy.bits .bf16 < FTy.bits .f32
  bcast_S_S4x6144x4608 : S_.BroadcastsInDim S4x6144x4608 (![] : Fin 0 → Fin S4x6144x4608.rank)
  bcast_S_S4x6144x1792 : S_.BroadcastsInDim S4x6144x1792 (![] : Fin 0 → Fin S4x6144x1792.rank)

variable [Facts]

def fn {F : FTy → Type} [FloatOps F] (main_arg0 : FVec F S4x6144x4608 .bf16) (main_arg1 : FVec F S4x6144x1792 .bf16) : IVec S4x6144x4608 1 × IVec S4x6144x1792 1 :=
  let main_v0 : FVec F S4x6144x4608 .f32 := (extf .f32 · bitsLt_bf16_f32) main_arg0
  let main_v1 : FVec F S4x6144x4608 .f32 := Host.absf main_v0
  let main_cst : FVec F S_ .f32 := constant S_ .f32 0x7F7F0000#32
  let main_v2 : FVec F S4x6144x4608 .f32 := broadcastInDim S4x6144x4608 ![] bcast_S_S4x6144x4608 main_cst
  let main_v3 : IVec S4x6144x4608 1 := cmpf .ole main_v1 main_v2
  let main_cst_0 : FVec F S_ .f32 := constant S_ .f32 0x7F800000#32
  let main_v4 : FVec F S4x6144x4608 .f32 := broadcastInDim S4x6144x4608 ![] bcast_S_S4x6144x4608 main_cst_0
  let main_v5 : IVec S4x6144x4608 1 := cmpf .oeq main_v1 main_v4
  let main_v6 : IVec S4x6144x4608 1 := ori main_v3 main_v5
  let main_v7 : FVec F S4x6144x1792 .f32 := (extf .f32 · bitsLt_bf16_f32) main_arg1
  let main_v8 : FVec F S4x6144x1792 .f32 := Host.absf main_v7
  let main_cst_1 : FVec F S_ .f32 := constant S_ .f32 0x7F7F0000#32
  let main_v9 : FVec F S4x6144x1792 .f32 := broadcastInDim S4x6144x1792 ![] bcast_S_S4x6144x1792 main_cst_1
  let main_v10 : IVec S4x6144x1792 1 := cmpf .ole main_v8 main_v9
  let main_cst_2 : FVec F S_ .f32 := constant S_ .f32 0x7F800000#32
  let main_v11 : FVec F S4x6144x1792 .f32 := broadcastInDim S4x6144x1792 ![] bcast_S_S4x6144x1792 main_cst_2
  let main_v12 : IVec S4x6144x1792 1 := cmpf .oeq main_v8 main_v11
  let main_v13 : IVec S4x6144x1792 1 := ori main_v10 main_v12
  (main_v6, main_v13)
-- ==== Kernel.lean ====
abbrev S4x6144x4608 : Shape := ⟨3, ![4, 6144, 4608]⟩
abbrev S4x6144x1792 : Shape := ⟨3, ![4, 6144, 1792]⟩
abbrev S24576x4608 : Shape := ⟨2, ![24576, 4608]⟩
abbrev S24576x1792 : Shape := ⟨2, ![24576, 1792]⟩
abbrev S4608x1792 : Shape := ⟨2, ![4608, 1792]⟩
abbrev S48x4x4608 : Shape := ⟨3, ![48, 4, 4608]⟩
abbrev S48x4x1792 : Shape := ⟨3, ![48, 4, 1792]⟩
abbrev S512x4608 : Shape := ⟨2, ![512, 4608]⟩
abbrev S512x1792 : Shape := ⟨2, ![512, 1792]⟩
abbrev S1x4x4608 : Shape := ⟨3, ![1, 4, 4608]⟩
abbrev S1x4x1792 : Shape := ⟨3, ![1, 4, 1792]⟩
abbrev S4608x512 : Shape := ⟨2, ![4608, 512]⟩
abbrev S128x256 : Shape := ⟨2, ![128, 256]⟩
abbrev S256 : Shape := ⟨1, ![256]⟩
abbrev S1x256 : Shape := ⟨2, ![1, 256]⟩
abbrev S256x256 : Shape := ⟨2, ![256, 256]⟩
abbrev S1x1x256 : Shape := ⟨3, ![1, 1, 256]⟩
abbrev S128x512 : Shape := ⟨2, ![128, 512]⟩
abbrev S512 : Shape := ⟨1, ![512]⟩
abbrev S1x512 : Shape := ⟨2, ![1, 512]⟩
abbrev S256x512 : Shape := ⟨2, ![256, 512]⟩
abbrev S1x1x512 : Shape := ⟨3, ![1, 1, 512]⟩
abbrev S512x128 : Shape := ⟨2, ![512, 128]⟩
abbrev S512x512 : Shape := ⟨2, ![512, 512]⟩

abbrev nBuf : Space → Nat
  | .hbm => 9
  | .vmem => 15
  | .smem => 0
  | _ => 0

abbrev bufTy : (tb : Table) → Fin (tcTables nBuf tb) → BufTy
  | .hbm, ⟨0, _⟩ => ⟨S4x6144x4608, .bf16⟩
  | .hbm, ⟨1, _⟩ => ⟨S4x6144x1792, .bf16⟩
  | .hbm, ⟨2, _⟩ => ⟨S24576x4608, .bf16⟩
  | .hbm, ⟨3, _⟩ => ⟨S24576x1792, .bf16⟩
  | .hbm, ⟨4, _⟩ => ⟨S4608x1792, .f32⟩
  | .hbm, ⟨5, _⟩ => ⟨S24576x4608, .fp8e4m3⟩
  | .hbm, ⟨6, _⟩ => ⟨S48x4x4608, .f32⟩
  | .hbm, ⟨7, _⟩ => ⟨S24576x1792, .fp8e4m3⟩
  | .hbm, ⟨8, _⟩ => ⟨S48x4x1792, .f32⟩
  | .local _ .vmem, ⟨0, _⟩ => ⟨S512x4608, .bf16⟩
  | .local _ .vmem, ⟨1, _⟩ => ⟨S512x4608, .bf16⟩
  | .local _ .vmem, ⟨2, _⟩ => ⟨S512x1792, .bf16⟩
  | .local _ .vmem, ⟨3, _⟩ => ⟨S512x1792, .bf16⟩
  | .local _ .vmem, ⟨4, _⟩ => ⟨S4608x1792, .f32⟩
  | .local _ .vmem, ⟨5, _⟩ => ⟨S512x4608, .fp8e4m3⟩
  | .local _ .vmem, ⟨6, _⟩ => ⟨S512x4608, .fp8e4m3⟩
  | .local _ .vmem, ⟨7, _⟩ => ⟨S1x4x4608, .f32⟩
  | .local _ .vmem, ⟨8, _⟩ => ⟨S1x4x4608, .f32⟩
  | .local _ .vmem, ⟨9, _⟩ => ⟨S512x1792, .fp8e4m3⟩
  | .local _ .vmem, ⟨10, _⟩ => ⟨S512x1792, .fp8e4m3⟩
  | .local _ .vmem, ⟨11, _⟩ => ⟨S1x4x1792, .f32⟩
  | .local _ .vmem, ⟨12, _⟩ => ⟨S1x4x1792, .f32⟩
  | .local _ .vmem, ⟨13, _⟩ => ⟨S4608x512, .bf16⟩
  | .local _ .vmem, ⟨14, _⟩ => ⟨S512x1792, .bf16⟩
  | _, _ => ⟨S4x6144x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4608x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4608 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x4608 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1792 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x6144x4608 : Shape := ⟨3, ![4, 6144, 4608]⟩
abbrev S4x6144x1792 : Shape := ⟨3, ![4, 6144, 1792]⟩
abbrev S4608x1792 : Shape := ⟨2, ![4608, 1792]⟩
abbrev S24576x4608 : Shape := ⟨2, ![24576, 4608]⟩
abbrev S48x4x4608 : Shape := ⟨3, ![48, 4, 4608]⟩
abbrev S24576x1792 : Shape := ⟨2, ![24576, 1792]⟩
abbrev S48x4x1792 : Shape := ⟨3, ![48, 4, 1792]⟩
abbrev S4x48x128x4608 : Shape := ⟨4, ![4, 48, 128, 4608]⟩
abbrev S4x48x4608 : Shape := ⟨3, ![4, 48, 4608]⟩
abbrev S4x48x1x4608 : Shape := ⟨4, ![4, 48, 1, 4608]⟩
abbrev S4x48x128x1792 : Shape := ⟨4, ![4, 48, 128, 1792]⟩
abbrev S4x48x1792 : Shape := ⟨3, ![4, 48, 1792]⟩
abbrev S4x48x1x1792 : Shape := ⟨4, ![4, 48, 1, 1792]⟩

abbrev nBuf : Space → Nat
  | .hbm => 7
  | .vmem => 7
  | .smem => 0
  | _ => 0

abbrev bufTy : (tb : Table) → Fin (tcTables nBuf tb) → BufTy
  | .hbm, ⟨0, _⟩ => ⟨S4x6144x4608, .bf16⟩
  | .hbm, ⟨1, _⟩ => ⟨S4x6144x1792, .bf16⟩
  | .hbm, ⟨2, _⟩ => ⟨S4608x1792, .f32⟩
  | .hbm, ⟨3, _⟩ => ⟨S24576x4608, .fp8e4m3⟩
  | .hbm, ⟨4, _⟩ => ⟨S48x4x4608, .f32⟩
  | .hbm, ⟨5, _⟩ => ⟨S24576x1792, .fp8e4m3⟩
  | .hbm, ⟨6, _⟩ => ⟨S48x4x1792, .f32⟩
  | .local _ .vmem, ⟨0, _⟩ => ⟨S4x6144x4608, .bf16⟩
  | .local _ .vmem, ⟨1, _⟩ => ⟨S4x6144x1792, .bf16⟩
  | .local _ .vmem, ⟨2, _⟩ => ⟨S4608x1792, .f32⟩
  | .local _ .vmem, ⟨3, _⟩ => ⟨S24576x4608, .fp8e4m3⟩
  | .local _ .vmem, ⟨4, _⟩ => ⟨S48x4x4608, .f32⟩
  | .local _ .vmem, ⟨5, _⟩ => ⟨S24576x1792, .fp8e4m3⟩
  | .local _ .vmem, ⟨6, _⟩ => ⟨S48x4x1792, .f32⟩
  | _, _ => ⟨S4x6144x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x6144x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x6144x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x4608 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x4x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1792 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x4x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Block.lean ====
module

public import Idealize.ShloMosaic.Lib.Pointwise
public import Idealize.ShloMosaic.Lib.Pointwise.IndexVar
public import Idealize.ShloMosaic.Lib.Pointwise.Tactic

@[expose] public section

set_option maxRecDepth 16384

noncomputable section

namespace Cert.Hand

open Idealize.ShloMosaic

/-! ## One block of the kernel: 128 tokens by `C` columns, quantised -/

/-- The shape of a block of `C` columns. -/
abbrev Blk (C : ℕ) : Shape := ⟨2, ![128, C]⟩
/-- The block turned. -/
abbrev BlkT (C : ℕ) : Shape := ⟨2, ![C, 128]⟩
/-- One number per column, as a vector, -/
abbrev Vc (C : ℕ) : Shape := ⟨1, ![C]⟩
/-- as a row, -/
abbrev Rw1 (C : ℕ) : Shape := ⟨2, ![1, C]⟩
/-- and as a row of a stack of one. -/
abbrev Rw11 (C : ℕ) : Shape := ⟨3, ![1, 1, C]⟩
/-- 256 candidate exponent fields per column. -/
abbrev Sq (C : ℕ) : Shape := ⟨2, ![256, C]⟩

/-- What the operations ask of the shapes at width `C`. -/
structure Wd (C : ℕ) : Prop where
  same : (Blk C).ShapeCasts (Blk C)
  red : (Blk C).Reduces [0] (Vc C)
  row : (Vc C).ShapeCasts (Rw1 C)
  iot : (Sq C).Iotas .tc 32 [0]
  wide : (Rw1 C).Broadcasts (Sq C)
  redI : (Sq C).Reduces [0] (Vc C)
  tall : (Rw1 C).Broadcasts (Blk C)
  stack : (Rw1 C).ShapeCasts (Rw11 C)
  turn : (Blk C).Transposes [1, 0] (BlkT C)
  sameT : (BlkT C).ShapeCasts (BlkT C)

variable {F : FTy → Type} [FloatOps F]

/-- The columns' greatest absolute values over 448. -/
def qT {C : ℕ} (w : Wd C) (v : Vec F (Blk C) .bf16) : FVec F (Rw1 C) .f32 :=
  mulf (extf .f32 (shapeCast (Rw1 C) (multiReduction (φ := .bf16) .maximumf [0] (Vc C) (absf (shapeCast (Blk C) v w.same)) 0xFF80#16 w.red (.inr rfl) rfl) w.row) (by decide))
    (broadcast (Rw1 C) (Scalar.ofBits .f32 0x3B124925#32))

/-- The columns' exponent fields. -/
def qB {C : ℕ} (w : Wd C) (t : FVec F (Rw1 C) .f32) : IVec (Rw1 C) 32 :=
  shapeCast (Rw1 C) (multiReductionI .maxsi [0] (Vc C)
    (select (cmpf .oge (broadcastTo (Sq C) t w.wide)
        (bitcastToFloat .f32 (shli (iota .tc (Sq C) 32 [0] w.iot) (broadcast (Sq C) 23#32))))
      (iota .tc (Sq C) 32 [0] w.iot) (broadcast (Sq C) 0#32)) 2147483648#32 w.redI rfl) w.row

/-- The columns' scale exponents. -/
def qE {C : ℕ} (b : IVec (Rw1 C) 32) : IVec (Rw1 C) 32 :=
  select (ori (cmpi .eq b (broadcast (Rw1 C) 0#32)) (cmpi .eq b (broadcast (Rw1 C) 255#32))) (broadcast (Rw1 C) 0#32)
    (subi b (broadcast (Rw1 C) 126#32))

/-- The columns' scales, -/
def qScale {C : ℕ} (e : IVec (Rw1 C) 32) : FVec F (Rw1 C) .f32 :=
  bitcastToFloat .f32 (shli (addi e (broadcast (Rw1 C) 127#32)) (broadcast (Rw1 C) 23#32))
/-- and their inverses. -/
def qInv {C : ℕ} (e : IVec (Rw1 C) 32) : FVec F (Rw1 C) .bf16 :=
  truncf .bf16 (bitcastToFloat (F := F) .f32 (shli (subi (broadcast (Rw1 C) 127#32) e) (broadcast (Rw1 C) 23#32))) (by decide)

/-- The block's codes. -/
def qCode {C : ℕ} (w : Wd C) (v : Vec F (Blk C) .bf16) (i : FVec F (Rw1 C) .bf16) : FVec F (Blk C) .fp8e4m3 :=
  truncf .fp8e4m3 (minimumf (broadcast (Blk C) (Scalar.truncf .bf16 (by decide) (Scalar.ofBits (F := F) .f32 0x43E00000#32)))
    (maximumf (broadcast (Blk C) (Scalar.truncf .bf16 (by decide) (Scalar.ofBits (F := F) .f32 0xC3E00000#32)))
      (mulf (shapeCast (Blk C) v w.same) (broadcastTo (Blk C) i w.tall)))) (by decide)

/-- What the codes stand for: each times its column's scale. -/
def qW {C : ℕ} (w : Wd C) (c : FVec F (Blk C) .fp8e4m3) (s : FVec F (Rw1 C) .f32) : FVec F (Blk C) .bf16 :=
  mulf (extf .bf16 c (by decide)) (broadcastTo (Blk C) (truncf .bf16 s (by decide)) w.tall)

/-- The block's exponents, -/
def bE {C : ℕ} (w : Wd C) (v : Vec F (Blk C) .bf16) : IVec (Rw1 C) 32 := qE (qB w (qT w v))
/-- codes, -/
def bCode {C : ℕ} (w : Wd C) (v : Vec F (Blk C) .bf16) : FVec F (Blk C) .fp8e4m3 := qCode w v (qInv (bE w v))
/-- scales as stored, -/
def bScale {C : ℕ} (w : Wd C) (v : Vec F (Blk C) .bf16) : FVec F (Rw11 C) .f32 := shapeCast (Rw11 C) (qScale (F := F) (bE w v)) w.stack
/-- the values the codes stand for as stored, -/
def bW {C : ℕ} (w : Wd C) (v : Vec F (Blk C) .bf16) : FVec F (Blk C) .bf16 := shapeCast (Blk C) (qW w (bCode w v) (qScale (bE w v))) w.same
/-- and those turned. -/
def bWT {C : ℕ} (w : Wd C) (v : Vec F (Blk C) .bf16) : FVec F (BlkT C) .bf16 :=
  shapeCast (BlkT C) (transpose (BlkT C) [1, 0] (qW w (bCode w v) (qScale (bE w v))) w.turn) w.sameT

end Cert.Hand

end
-- ==== Proof.Pieces.lean ====
module

public import proofs.«01_k».proof.Proof.Block
public import Idealize.ShloMosaic.Lib.Pipeline.FrameBody
public import Idealize.ShloMosaic.Lib.Pipeline.Frame
public import Idealize.ShloMosaic.Lib.WholeRead
public import Idealize.ShloMosaic.Lib.Pipeline.ValueKit.Tiles

@[expose] public section

set_option maxRecDepth 16384

noncomputable section

namespace Cert.Hand

open Idealize.ShloMosaic Idealize.ShloMosaic.TcCoe Idealize.SL.Sem

/-! ## The stores of one step of the kernel, newest first

A step's block has 512 tokens and `K = C * M` columns. It is cut into `4 * M` pieces of 128 tokens by `C` columns;
piece `n` is the one of group `n % 4` and of column chunk `n / 4`. -/

/-- The values of `f`, the last first. -/
def desc {α : Type} : (n : ℕ) → (Fin n → α) → List α
  | 0, _ => []
  | n + 1, f => f (Fin.last n) :: desc n fun i => f i.castSucc

theorem mem_desc {α : Type} : ∀ (n : ℕ) (f : Fin n → α) (p : α), p ∈ desc n f ↔ ∃ i, f i = p
  | 0, f, p => by simp [desc]
  | n + 1, f, p => by
    rw [desc, List.mem_cons, mem_desc n]
    constructor
    · rintro (rfl | ⟨i, rfl⟩)
      · exact ⟨_, rfl⟩
      · exact ⟨_, rfl⟩
    · rintro ⟨i, rfl⟩
      induction i using Fin.lastCases with
      | last => exact Or.inl rfl
      | cast i => exact Or.inr ⟨i, rfl⟩

/-- A step's block, -/
abbrev Wide (K : ℕ) : Shape := ⟨2, ![512, K]⟩
/-- the same turned, -/
abbrev Tall (K : ℕ) : Shape := ⟨2, ![K, 512]⟩
/-- and its scales. -/
abbrev Scales (K : ℕ) : Shape := ⟨3, ![1, 4, K]⟩

variable {C M K : ℕ}

theorem inb_wide (hK : K = C * M) {N : ℕ} (hN : N ≤ 4 * M) (n : Fin N) :
    ∀ a, (![128 * (n.val % 4), C * (n.val / 4)] : Fin 2 → ℕ) a + (![128, C] : Fin 2 → ℕ) a ≤ (Wide K).size a := by
  have h : C * (n.val / 4) + C ≤ K := by
    have : n.val / 4 + 1 ≤ M := by omega
    calc C * (n.val / 4) + C = C * (n.val / 4 + 1) := by ring
      _ ≤ C * M := Nat.mul_le_mul_left _ this
      _ = K := hK.symm
  intro a
  fin_cases a
  · show 128 * (n.val % 4) + 128 ≤ 512; omega
  · exact h

theorem inb_tall (hK : K = C * M) {N : ℕ} (hN : N ≤ 4 * M) (n : Fin N) :
    ∀ a, (![C * (n.val / 4), 128 * (n.val % 4)] : Fin 2 → ℕ) a + (![C, 128] : Fin 2 → ℕ) a ≤ (Tall K).size a := by
  intro a
  fin_cases a
  · exact inb_wide hK hN n 1
  · exact inb_wide hK hN n 0

theorem inb_scales (hK : K = C * M) {N : ℕ} (hN : N ≤ 4 * M) (n : Fin N) :
    ∀ a, (![0, n.val % 4, C * (n.val / 4)] : Fin 3 → ℕ) a + (![1, 1, C] : Fin 3 → ℕ) a ≤ (Scales K).size a := by
  intro a
  fin_cases a
  · show 0 + 1 ≤ 1; omega
  · show n.val % 4 + 1 ≤ 4; omega
  · exact inb_wide hK hN n 1

variable {F : FTy → Type} [FloatOps F] {sig : RefSig}

section
variable (w : Wd C) (hK : K = C * M) (m : Memref sig .tc .vmem (Wide K) .bf16) (hm : m.IsWhole) (x : Vec F (Wide K) .bf16)
  {N : ℕ} (hN : N ≤ 4 * M)

/-- Piece `n` of the block, as the kernel loads it. -/
def piece (n : Fin N) : Vec F (Blk C) .bf16 :=
  View.readAt (Elt F) m.view (Rect.unit (s := Wide K) ![128 * (n.val % 4), C * (n.val / 4)] (Blk C).size (inb_wide hK hN n)).toLoadRect (hm.unread x)

/-- The stores of codes, -/
def codes : List (View.Piece (Elt F) (Wide K) .fp8e4m3) :=
  desc N fun n => ⟨Rect.unit (s := Wide K) ![128 * (n.val % 4), C * (n.val / 4)] (Blk C).size (inb_wide hK hN n), bCode w (piece hK m hm x hN n)⟩
/-- of scales, -/
def scales : List (View.Piece (Elt F) (Scales K) .f32) :=
  desc N fun n => ⟨Rect.unit (s := Scales K) ![0, n.val % 4, C * (n.val / 4)] (Rw11 C).size (inb_scales hK hN n), bScale w (piece hK m hm x hN n)⟩
/-- of the values the codes stand for, -/
def vals : List (View.Piece (Elt F) (Wide K) .bf16) :=
  desc N fun n => ⟨Rect.unit (s := Wide K) ![128 * (n.val % 4), C * (n.val / 4)] (Blk C).size (inb_wide hK hN n), bW w (piece hK m hm x hN n)⟩
/-- and of those turned. -/
def valsT : List (View.Piece (Elt F) (Tall K) .bf16) :=
  desc N fun n => ⟨Rect.unit (s := Tall K) ![C * (n.val / 4), 128 * (n.val % 4)] (BlkT C).size (inb_tall hK hN n), bWT w (piece hK m hm x hN n)⟩

end

end Cert.Hand

end
-- ==== Proof.Runs.lean ====
module
public import proofs.«01_k».proof.Proof.Gen.KernelIdeal.Frame
public import proofs.«01_k».proof.Proof.Pieces
@[expose] public section
set_option maxRecDepth 16384
noncomputable section
namespace Cert.Hand
open Idealize.ShloMosaic Idealize.ShloMosaic.TcCoe Idealize.SL.Sem
open Cert.KernelIdeal Cert.KernelIdeal.Gen

theorem wd256 : Wd 256 := ⟨by decide, by decide, by decide, by decide, by decide, by decide, by decide, by decide, by decide, by decide⟩
theorem wd512 : Wd 512 := ⟨by decide, by decide, by decide, by decide, by decide, by decide, by decide, by decide, by decide, by decide⟩

variable {F : FTy → Type} [FloatOps F]
 (c : Dev nD) (i : grid0.Coords) (arg1 : Memref sig .tc .vmem S512x4608 .bf16) (harg1 : arg1.IsWhole) (arg2 : Memref sig .tc .vmem S512x1792 .bf16) (harg2 : arg2.IsWhole)
 (arg3 : Memref sig .tc .vmem S4608x1792 .f32) (harg3 : arg3.IsWhole) (arg4 : Memref sig .tc .vmem S512x4608 .fp8e4m3) (harg4 : arg4.IsWhole)
 (arg5 : Memref sig .tc .vmem S1x4x4608 .f32) (harg5 : arg5.IsWhole) (arg6 : Memref sig .tc .vmem S512x1792 .fp8e4m3) (harg6 : arg6.IsWhole)
 (arg7 : Memref sig .tc .vmem S1x4x1792 .f32) (harg7 : arg7.IsWhole) (arg8 : Memref sig .tc .vmem S4608x512 .bf16) (harg8 : arg8.IsWhole) (arg9 : Memref sig .tc .vmem S512x1792 .bf16) (harg9 : arg9.IsWhole)
 (x0 : Vec F S512x4608 .bf16) (x1 : Vec F S512x1792 .bf16) (xo2 : Vec F S4608x1792 .f32)

/-- The scratch of turned values after `4 * n` pieces, read at the rows of chunk `k`. -/
theorem inb_rows (k : Fin 9) : ∀ a, (![512 * k.val, 0] : Fin 2 → ℕ) a + S512x1792.size a ≤ S4608x1792.size a := by
  intro a; fin_cases a
  · show 512 * k.val + 512 ≤ 4608; omega
  · show 0 + 1792 ≤ 1792; omega

theorem inb_turned (k : Fin 9) : ∀ a, (![512 * k.val, 0] : Fin 2 → ℕ) a + S512x512.size a ≤ S4608x512.size a := by
  intro a; fin_cases a
  · show 512 * k.val + 512 ≤ 4608; omega
  · show 0 + 512 ≤ 512; omega

/-- Chunk `k` of the turned values, as the kernel loads it once that chunk's four pieces are stored. -/
def turned (k : Fin 9) : Vec F S512x512 .bf16 :=
  arg8.view.readCov (valsT (C := 512) (M := 9) (N := 4 * k.val + 4) wd512 rfl arg1 harg1 x0 (by omega))
    (Rect.unit (s := S4608x512) ![512 * k.val, 0] S512x512.size (inb_turned k)).toLoadRect

/-- The other operand's values, as the kernel loads them. -/
def others : Vec F S512x1792 .bf16 :=
  arg9.view.readCov (vals (C := 256) (M := 7) (N := 28) wd256 rfl arg2 harg2 x1 (by decide))
    (Rect.unit (s := S512x1792) ![0, 0] S512x1792.size (by decide)).toLoadRect

/-- The stores to the running total at a later step. -/
def totalsB : List (View.Piece (Elt F) S4608x1792 .f32) :=
  desc 9 fun k => ⟨Rect.unit (s := S4608x1792) ![512 * k.val, 0] S512x1792.size (inb_rows k),
    k0_pay3 (View.readAt (Elt F) arg3.view (Rect.unit (s := S4608x1792) ![512 * k.val, 0] S512x1792.size (inb_rows k)).toLoadRect (harg3.unread xo2))
      (turned arg1 harg1 arg8 x0 k) (others arg2 harg2 arg9 x1)⟩

/-- The stores to the running total at the first step: zero, then one chunk after another. -/
def totalsA : (n : ℕ) → n ≤ 9 → List (View.Piece (Elt F) S4608x1792 .f32)
  | 0, _ => [⟨Rect.unit (s := S4608x1792) ![0, 0] S4608x1792.size (by decide), k0_pay4⟩]
  | n + 1, h => ⟨Rect.unit (s := S4608x1792) ![512 * n, 0] S512x1792.size (inb_rows ⟨n, h⟩),
      k0_pay3 (arg3.view.readCov (totalsA n (Nat.le_of_succ_le h)) (Rect.unit (s := S4608x1792) ![512 * n, 0] S512x1792.size (inb_rows ⟨n, h⟩)).toLoadRect)
        (turned arg1 harg1 arg8 x0 ⟨n, h⟩) (others arg2 harg2 arg9 x1)⟩ :: totalsA n (Nat.le_of_succ_le h)

theorem dw_A (hc0 : cond0_0 i) : (kernelRun0_A c i arg1 harg1 arg2 harg2 arg3 harg3 arg4 harg4 arg5 harg5 arg6 harg6 arg7 harg7 arg8 harg8 arg9 harg9 hc0 x0 x1).1
    = totalsA arg1 harg1 arg2 harg2 arg3 arg8 arg9 x0 x1 9 le_rfl := by
  sl_kernel_rfl

theorem xc_A (hc0 : cond0_0 i) : (kernelRun0_A c i arg1 harg1 arg2 harg2 arg3 harg3 arg4 harg4 arg5 harg5 arg6 harg6 arg7 harg7 arg8 harg8 arg9 harg9 hc0 x0 x1).2.1
    = codes (C := 512) (M := 9) (N := 36) wd512 rfl arg1 harg1 x0 (by decide) := by
  sl_kernel_rfl

theorem xs_A (hc0 : cond0_0 i) : (kernelRun0_A c i arg1 harg1 arg2 harg2 arg3 harg3 arg4 harg4 arg5 harg5 arg6 harg6 arg7 harg7 arg8 harg8 arg9 harg9 hc0 x0 x1).2.2.1
    = scales (C := 512) (M := 9) (N := 36) wd512 rfl arg1 harg1 x0 (by decide) := by
  sl_kernel_rfl

theorem yc_A (hc0 : cond0_0 i) : (kernelRun0_A c i arg1 harg1 arg2 harg2 arg3 harg3 arg4 harg4 arg5 harg5 arg6 harg6 arg7 harg7 arg8 harg8 arg9 harg9 hc0 x0 x1).2.2.2.1
    = codes (C := 256) (M := 7) (N := 28) wd256 rfl arg2 harg2 x1 (by decide) := by
  sl_kernel_rfl

theorem ys_A (hc0 : cond0_0 i) : (kernelRun0_A c i arg1 harg1 arg2 harg2 arg3 harg3 arg4 harg4 arg5 harg5 arg6 harg6 arg7 harg7 arg8 harg8 arg9 harg9 hc0 x0 x1).2.2.2.2.1
    = scales (C := 256) (M := 7) (N := 28) wd256 rfl arg2 harg2 x1 (by decide) := by
  sl_kernel_rfl

theorem dw_B (hc0 : ¬ cond0_0 i) : (kernelRun0_B c i arg1 harg1 arg2 harg2 arg3 harg3 arg4 harg4 arg5 harg5 arg6 harg6 arg7 harg7 arg8 harg8 arg9 harg9 hc0 x0 x1 xo2).1
    = totalsB arg1 harg1 arg2 harg2 arg3 harg3 arg8 arg9 x0 x1 xo2 := by
  sl_kernel_rfl

theorem xc_B (hc0 : ¬ cond0_0 i) : (kernelRun0_B c i arg1 harg1 arg2 harg2 arg3 harg3 arg4 harg4 arg5 harg5 arg6 harg6 arg7 harg7 arg8 harg8 arg9 harg9 hc0 x0 x1 xo2).2.1
    = codes (C := 512) (M := 9) (N := 36) wd512 rfl arg1 harg1 x0 (by decide) := by
  sl_kernel_rfl

theorem xs_B (hc0 : ¬ cond0_0 i) : (kernelRun0_B c i arg1 harg1 arg2 harg2 arg3 harg3 arg4 harg4 arg5 harg5 arg6 harg6 arg7 harg7 arg8 harg8 arg9 harg9 hc0 x0 x1 xo2).2.2.1
    = scales (C := 512) (M := 9) (N := 36) wd512 rfl arg1 harg1 x0 (by decide) := by
  sl_kernel_rfl

theorem yc_B (hc0 : ¬ cond0_0 i) : (kernelRun0_B c i arg1 harg1 arg2 harg2 arg3 harg3 arg4 harg4 arg5 harg5 arg6 harg6 arg7 harg7 arg8 harg8 arg9 harg9 hc0 x0 x1 xo2).2.2.2.1
    = codes (C := 256) (M := 7) (N := 28) wd256 rfl arg2 harg2 x1 (by decide) := by
  sl_kernel_rfl

theorem ys_B (hc0 : ¬ cond0_0 i) : (kernelRun0_B c i arg1 harg1 arg2 harg2 arg3 harg3 arg4 harg4 arg5 harg5 arg6 harg6 arg7 harg7 arg8 harg8 arg9 harg9 hc0 x0 x1 xo2).2.2.2.2.1
    = scales (C := 256) (M := 7) (N := 28) wd256 rfl arg2 harg2 x1 (by decide) := by
  sl_kernel_rfl

end Cert.Hand

end
-- ==== Proof.Scale.lean ====
module

public import Idealize.ShloMosaic.Lib.Pointwise.Tactic
public import Idealize.ShloMosaic.PureOps.Ideal.Laws

@[expose] public section

set_option maxRecDepth 16384

noncomputable section

namespace Cert.Hand

open Idealize.ShloMosaic

/-! ## A group's scale: the exponent found by comparing with powers of two, and the one found by a logarithm -/

/-- The power of two whose exponent field is `k`: what the word `k << 23` denotes as a float. -/
def pw (k : BitVec 32) : EReal := Ideal.ofBits .f32 (IntOp.shli .vector k 23#32)

/-- The kernel's exponent field of `t`: the greatest `k < 256` with `pw k ≤ t`. -/
def biased (t : EReal) : BitVec 32 :=
  (Finset.univ : Finset (Fin 256)).fold IntOp.maxsi 2147483648#32 fun k =>
    Scalar.select (Ideal.cmp .oge t (pw (BitVec.ofNat 32 k.val))) (BitVec.ofNat 32 k.val) 0#32

/-- The kernel's scale exponent: zero at the two extreme exponent fields, else the field less 126. -/
def expo (t : EReal) : BitVec 32 :=
  Scalar.select (IntOp.ori (IntOp.cmpi .eq (biased t) 0#32) (IntOp.cmpi .eq (biased t) 255#32)) 0#32
    (IntOp.subi (biased t) 126#32)

/-- The kernel's scale, two to that exponent, -/
def kScale (t : EReal) : EReal := pw (IntOp.addi (expo t) 127#32)
/-- and its inverse. -/
def kInv (t : EReal) : EReal := pw (IntOp.subi 127#32 (expo t))

/-- The reference's scale exponent. -/
def rExp (t : EReal) : EReal :=
  Scalar.select (IntOp.ori (Ideal.cmp .olt t (Ideal.ofBits .f32 0x00800000#32)) (Ideal.cmp .oeq t (Ideal.ofBits .f32 0x7F800000#32)))
    (Ideal.ofBits .f32 0x00000000#32)
    (Ideal.liftRound Int.floor (Ideal.div (Ideal.log t) (Ideal.log (Ideal.ofBits .f32 0x40000000#32))) + Ideal.ofBits .f32 0x3F800000#32)

/-- The reference's scale -/
def rScale (t : EReal) : EReal := Ideal.exp2 (rExp t)
/-- and its inverse. -/
def rInv (t : EReal) : EReal := Ideal.exp2 (Ideal.ofBits .f32 0x00000000#32 - rExp t)

/-! ### What the words denote -/

theorem fields : ∀ k : Fin 256, (IntOp.shli .vector (BitVec.ofNat 32 k.val) 23#32).extractLsb' 31 1 = 0#1
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

theorem pw_zero : pw 0#32 = 0 := by
  obtain ⟨h1, h2, h3⟩ := fields 0
  have h1' : (IntOp.shli .vector 0#32 23#32).extractLsb' 31 1 = 0#1 := h1
  have h2' : ((IntOp.shli .vector 0#32 23#32).extractLsb' 23 8).toNat = 0 := h2
  have h3' : ((IntOp.shli .vector 0#32 23#32).extractLsb' 0 23).toNat = 0 := h3
  simp only [pw, Ideal.ofBits, Ideal.ieee, Nat.reduceAdd, h1', h2', h3']
  norm_num

theorem pw_top : pw 255#32 = ⊤ := by
  obtain ⟨h1, h2, h3⟩ := fields 255
  have h1' : (IntOp.shli .vector 255#32 23#32).extractLsb' 31 1 = 0#1 := h1
  have h2' : ((IntOp.shli .vector 255#32 23#32).extractLsb' 23 8).toNat = 255 := h2
  have h3' : ((IntOp.shli .vector 255#32 23#32).extractLsb' 0 23).toNat = 0 := h3
  simp only [pw, Ideal.ofBits, Ideal.ieee, Nat.reduceAdd, h1', h2', h3']
  norm_num

theorem pw_mid (k : ℕ) (h0 : 0 < k) (h1 : k < 255) : pw (BitVec.ofNat 32 k) = (((2 : ℝ) ^ ((k : ℤ) - 127) : ℝ) : EReal) := by
  obtain ⟨e1, e2, e3⟩ := fields ⟨k, by omega⟩
  simp only at e1 e2 e3
  have hz : (2 : ℝ) ^ ((k : ℤ) - 127) = 8388608 * (2 : ℝ) ^ ((k : ℤ) - 127 - 23) := by
    rw [show (8388608 : ℝ) = 2 ^ (23 : ℤ) by norm_num, ← zpow_add₀ (by norm_num)]
    exact congrArg (fun z : ℤ => (2 : ℝ) ^ z) (by omega)
  simp only [pw, Ideal.ofBits, Ideal.ieee, Nat.reduceAdd, e1, e2, e3]
  rw [if_neg (by norm_num; omega), if_neg (by omega), hz]
  norm_num

theorem tiny_eq : Ideal.ofBits .f32 0x00800000#32 = (((2 : ℝ) ^ (-126 : ℤ) : ℝ) : EReal) :=
  (pw_mid 1 (by norm_num) (by norm_num)).trans (by norm_num)

theorem top_eq : Ideal.ofBits .f32 0x7F800000#32 = ⊤ := pw_top
theorem zero_eq : Ideal.ofBits .f32 0x00000000#32 = 0 := pw_zero
theorem two_eq : Ideal.ofBits .f32 0x40000000#32 = ((2 : ℝ) : EReal) :=
  (pw_mid 128 (by norm_num) (by norm_num)).trans (by norm_num)
theorem one_eq : Ideal.ofBits .f32 0x3F800000#32 = ((1 : ℝ) : EReal) :=
  (pw_mid 127 (by norm_num) (by norm_num)).trans (by norm_num)

/-! ### The greatest index of a run of indices -/

theorem toInt_maxsi (x y : BitVec 32) : (IntOp.maxsi x y).toInt = max x.toInt y.toInt := by
  unfold IntOp.maxsi
  split
  · rename_i h
    rw [BitVec.slt_iff_toInt_lt] at h
    rw [max_eq_left h.le]
  · rename_i h
    rw [BitVec.slt_iff_toInt_lt] at h
    rw [max_eq_right (by omega)]

theorem toInt_small : ∀ k : Fin 256, (BitVec.ofNat 32 k.val).toInt = (k.val : ℤ) := by decide +kernel

theorem fold_run (n : Fin 256) : ((Finset.univ : Finset (Fin 256)).fold IntOp.maxsi 2147483648#32 fun k =>
    if k ≤ n then BitVec.ofNat 32 k.val else 0#32) = BitVec.ofNat 32 n.val := by
  apply BitVec.eq_of_toInt_eq
  rw [← Finset.fold_hom (op' := max) (m := BitVec.toInt) toInt_maxsi, toInt_small]
  apply le_antisymm
  · rw [Finset.fold_max_le]
    refine ⟨?_, fun k _ => ?_⟩
    · rw [show (2147483648#32).toInt = -2147483648 by decide]; omega
    · split
      · rename_i h
        rw [toInt_small]
        exact_mod_cast h
      · simp
  · rw [Finset.le_fold_max]
    refine Or.inr ⟨n, Finset.mem_univ _, ?_⟩
    rw [if_pos le_rfl, toInt_small]

theorem biased_eq (t : EReal) (n : Fin 256) (h : ∀ k : Fin 256, pw (BitVec.ofNat 32 k.val) ≤ t ↔ k ≤ n) :
    biased t = BitVec.ofNat 32 n.val := by
  rw [← fold_run n, biased]
  congr 1
  funext k
  unfold Scalar.select Ideal.cmp
  by_cases hk : k ≤ n
  · simp [hk, (h k).2 hk]
  · simp [hk, mt (h k).1 hk]

/-! ### The two agree -/

theorem expo_mid : ∀ n : Fin 256, 0 < n.val → n.val < 253 → ∀ b : BitVec 32, b = BitVec.ofNat 32 n.val →
    IntOp.addi (Scalar.select (IntOp.ori (IntOp.cmpi .eq b 0#32) (IntOp.cmpi .eq b 255#32)) 0#32 (IntOp.subi b 126#32)) 127#32
        = BitVec.ofNat 32 (n.val + 1)
      ∧ IntOp.subi 127#32 (Scalar.select (IntOp.ori (IntOp.cmpi .eq b 0#32) (IntOp.cmpi .eq b 255#32)) 0#32 (IntOp.subi b 126#32))
        = BitVec.ofNat 32 (253 - n.val) := by
  intro n h0 h1 b hb
  subst hb
  revert n
  decide +kernel

theorem expo_low : IntOp.addi (Scalar.select (IntOp.ori (IntOp.cmpi .eq 0#32 0#32) (IntOp.cmpi .eq 0#32 255#32)) 0#32
      (IntOp.subi 0#32 126#32)) 127#32 = BitVec.ofNat 32 127
    ∧ IntOp.subi 127#32 (Scalar.select (IntOp.ori (IntOp.cmpi .eq 0#32 0#32) (IntOp.cmpi .eq 0#32 255#32)) 0#32
      (IntOp.subi 0#32 126#32)) = BitVec.ofNat 32 127 := by decide +kernel

theorem expo_high : IntOp.addi (Scalar.select (IntOp.ori (IntOp.cmpi .eq 255#32 0#32) (IntOp.cmpi .eq 255#32 255#32)) 0#32
      (IntOp.subi 255#32 126#32)) 127#32 = BitVec.ofNat 32 127
    ∧ IntOp.subi 127#32 (Scalar.select (IntOp.ori (IntOp.cmpi .eq 255#32 0#32) (IntOp.cmpi .eq 255#32 255#32)) 0#32
      (IntOp.subi 255#32 126#32)) = BitVec.ofNat 32 127 := by decide +kernel

theorem pw_127 : pw (BitVec.ofNat 32 127) = 1 :=
  (pw_mid 127 (by norm_num) (by norm_num)).trans (by norm_num)

/-- The kernel's scale and inverse are one when the exponent field is an extreme one. -/
theorem kernel_one (t : EReal) (h : biased t = 0#32 ∨ biased t = 255#32) : kScale t = 1 ∧ kInv t = 1 := by
  unfold kScale kInv expo
  rcases h with h | h <;> rw [h]
  · rw [expo_low.1, expo_low.2]; exact ⟨pw_127, pw_127⟩
  · rw [expo_high.1, expo_high.2]; exact ⟨pw_127, pw_127⟩

/-- The reference's are one below the least normal number and at infinity. -/
theorem reference_one (t : EReal) (h : t < (((2 : ℝ) ^ (-126 : ℤ) : ℝ) : EReal) ∨ t = ⊤) : rScale t = 1 ∧ rInv t = 1 := by
  have hc : rExp t = 0 := by
    unfold rExp
    rw [tiny_eq, top_eq, zero_eq]
    have hb : IntOp.ori (Ideal.cmp .olt t (((2 : ℝ) ^ (-126 : ℤ) : ℝ) : EReal)) (Ideal.cmp .oeq t ⊤) = 1#1 := by
      rcases h with h | h
      · rw [show Ideal.cmp .olt t (((2 : ℝ) ^ (-126 : ℤ) : ℝ) : EReal) = 1#1 by simp only [Ideal.cmp, h]; rfl]
        generalize Ideal.cmp .oeq t ⊤ = b
        revert b; decide
      · rw [show Ideal.cmp .oeq t ⊤ = 1#1 by simp only [Ideal.cmp, h]; rfl]
        generalize Ideal.cmp .olt t _ = b
        revert b; decide
    rw [hb]; rfl
  unfold rScale rInv
  rw [hc, zero_eq, sub_zero]
  have : Ideal.exp2 0 = 1 := by
    rw [show (0 : EReal) = ((0 : ℝ) : EReal) from rfl, Ideal.exp2_coe]
    simp
  exact ⟨this, this⟩

/-- Between them the two exponents are one integer. -/
theorem mid_eq (r : ℝ) (hlo : (2 : ℝ) ^ (-126 : ℤ) ≤ r) (hhi : r < (2 : ℝ) ^ (126 : ℤ)) :
    kScale (r : EReal) = rScale r ∧ kInv (r : EReal) = rInv r := by
  have hpos : 0 < r := lt_of_lt_of_le (by positivity) hlo
  obtain ⟨q, hq⟩ : ∃ q : ℤ, ⌊Real.log r / Real.log 2⌋ = q := ⟨_, rfl⟩
  have hl2 : 0 < Real.log 2 := Real.log_pos (by norm_num)
  have h1 : (2 : ℝ) ^ q ≤ r := by
    rw [← Real.log_le_log_iff (by positivity) hpos, Real.log_zpow, ← le_div_iff₀ hl2, ← hq]
    exact Int.floor_le _
  have h2 : r < (2 : ℝ) ^ (q + 1) := by
    rw [← Real.log_lt_log_iff hpos (by positivity), Real.log_zpow, ← div_lt_iff₀ hl2, ← hq]
    push_cast
    exact Int.lt_floor_add_one _
  have hlow : -126 ≤ q := by
    have := (zpow_lt_zpow_iff_right₀ (by norm_num : (1 : ℝ) < 2)).1 (lt_of_le_of_lt hlo h2)
    omega
  have hhigh : q < 126 := (zpow_lt_zpow_iff_right₀ (by norm_num : (1 : ℝ) < 2)).1 (lt_of_le_of_lt h1 hhi)
  obtain ⟨m, hm⟩ : ∃ m : ℕ, (m : ℤ) = q + 127 := ⟨(q + 127).toNat, by omega⟩
  have hb : biased (r : EReal) = BitVec.ofNat 32 m := by
    refine biased_eq r ⟨m, by omega⟩ fun k => ?_
    rcases Nat.eq_zero_or_pos k.val with hk0 | hk0
    · rw [hk0, show pw (BitVec.ofNat 32 0) = 0 from pw_zero]
      refine iff_of_true (by exact_mod_cast hpos.le) ?_
      rw [Fin.le_def, hk0]; exact Nat.zero_le _
    by_cases hk1 : k.val = 255
    · rw [hk1, show pw (BitVec.ofNat 32 255) = ⊤ from pw_top]
      refine iff_of_false (by simp) ?_
      rw [Fin.le_def, hk1]; simp only; omega
    rw [pw_mid k.val hk0 (by omega), EReal.coe_le_coe_iff, Fin.le_def]
    simp only
    constructor
    · intro h
      have := (zpow_lt_zpow_iff_right₀ (by norm_num : (1 : ℝ) < 2)).1 (lt_of_le_of_lt h h2)
      omega
    · intro h
      exact le_trans (zpow_le_zpow_right₀ (by norm_num) (by omega)) h1
  obtain ⟨e1, e2⟩ := expo_mid ⟨m, by omega⟩ (by simp only; omega) (by simp only; omega) (biased r) hb
  have he : rExp (r : EReal) = (((q + 1 : ℤ) : ℝ) : EReal) := by
    unfold rExp
    rw [tiny_eq, top_eq, zero_eq, two_eq, one_eq]
    have hc : IntOp.ori (Ideal.cmp .olt (r : EReal) (((2 : ℝ) ^ (-126 : ℤ) : ℝ) : EReal)) (Ideal.cmp .oeq (r : EReal) ⊤) = 0#1 := by
      rw [show Ideal.cmp .olt (r : EReal) (((2 : ℝ) ^ (-126 : ℤ) : ℝ) : EReal) = 0#1 by
          simp only [Ideal.cmp, EReal.coe_lt_coe_iff, not_lt.2 hlo]; rfl,
        show Ideal.cmp .oeq (r : EReal) ⊤ = 0#1 by simp [Ideal.cmp]]
      rfl
    rw [hc]
    have hl : Ideal.div (Ideal.log (r : EReal)) (Ideal.log ((2 : ℝ) : EReal)) = ((Real.log r / Real.log 2 : ℝ) : EReal) := by
      rw [Ideal.log_coe, Ideal.log_coe, if_neg (not_le.2 hpos), if_neg (by norm_num),
        Ideal.div_coe (Real.log_pos (by norm_num)).ne', ← EReal.coe_mul]
      congr 1; ring
    rw [hl, Ideal.liftRound_coe, hq]
    show ((q : ℝ) : EReal) + ((1 : ℝ) : EReal) = _
    rw [← EReal.coe_add]; norm_num
  constructor
  · unfold kScale rScale
    rw [he, Ideal.exp2_coe, show expo (r : EReal) = _ from rfl]
    unfold expo
    rw [e1, pw_mid (m + 1) (by omega) (by omega)]
    rw [show (Real.rpow 2 ((q + 1 : ℤ) : ℝ)) = (2 : ℝ) ^ (q + 1 : ℤ) from Real.rpow_intCast 2 (q + 1)]
    congr 2
    push_cast; omega
  · unfold kInv rInv
    rw [he, zero_eq, zero_sub, ← EReal.coe_neg, Ideal.exp2_coe]
    unfold expo
    rw [e2, pw_mid (253 - m) (by omega) (by omega), ← Int.cast_neg]
    rw [show (Real.rpow 2 ((-(q + 1) : ℤ) : ℝ)) = (2 : ℝ) ^ (-(q + 1) : ℤ) from Real.rpow_intCast 2 (-(q + 1))]
    congr 2
    omega

/-- A field is zero below the least normal number. -/
theorem biased_low (t : EReal) (h0 : 0 ≤ t) (h : t < (((2 : ℝ) ^ (-126 : ℤ) : ℝ) : EReal)) : biased t = 0#32 := by
  refine biased_eq t 0 fun k => ?_
  rcases Nat.eq_zero_or_pos k.val with hk0 | hk0
  · rw [hk0, show pw (BitVec.ofNat 32 0) = 0 from pw_zero]
    refine iff_of_true h0 ?_
    rw [Fin.le_def, hk0]; exact Nat.zero_le _
  refine iff_of_false (not_le.2 (lt_of_lt_of_le h ?_)) (by rw [Fin.le_def, not_le]; exact hk0)
  by_cases hk1 : k.val = 255
  · rw [hk1, show pw (BitVec.ofNat 32 255) = ⊤ from pw_top]; exact le_top
  rw [pw_mid k.val hk0 (by omega), EReal.coe_le_coe_iff]
  exact zpow_le_zpow_right₀ (by norm_num) (by omega)

theorem biased_top : biased ⊤ = 255#32 :=
  biased_eq ⊤ 255 fun k => iff_of_true le_top (Fin.le_last k)

/-- The two scales agree on every nonnegative `t` that is infinite or below `2^126`, and so do the two inverses. -/
theorem scale_eq (t : EReal) (h0 : 0 ≤ t) (h1 : t = ⊤ ∨ t < (((2 : ℝ) ^ (126 : ℤ) : ℝ) : EReal)) :
    kScale t = rScale t ∧ kInv t = rInv t := by
  by_cases ht : t = ⊤
  · obtain ⟨a, b⟩ := kernel_one t (Or.inr (ht ▸ biased_top))
    obtain ⟨c, d⟩ := reference_one t (Or.inr ht)
    exact ⟨a.trans c.symm, b.trans d.symm⟩
  by_cases hl : t < (((2 : ℝ) ^ (-126 : ℤ) : ℝ) : EReal)
  · obtain ⟨a, b⟩ := kernel_one t (Or.inl (biased_low t h0 hl))
    obtain ⟨c, d⟩ := reference_one t (Or.inl hl)
    exact ⟨a.trans c.symm, b.trans d.symm⟩
  have h1' := h1.resolve_left ht
  lift t to ℝ using ⟨ht, (lt_of_lt_of_le EReal.bot_lt_zero h0).ne'⟩
  exact mid_eq t (EReal.coe_le_coe_iff.1 (not_lt.1 hl)) (EReal.coe_lt_coe_iff.1 h1')

end Cert.Hand

end
-- ==== Proof.BlockValue.lean ====
module

public import proofs.«01_k».proof.Proof.Block
public import proofs.«01_k».proof.Proof.Scale
public import Idealize.ShloMosaic.Lib.Pipeline.Value

@[expose] public section

set_option maxRecDepth 16384

noncomputable section

namespace Cert.Hand

open Idealize.ShloMosaic

/-! ## A block of the kernel over the reals, read at an index -/

/-- The greatest absolute value of a group of 128, over 448. -/
def top (f : Fin 128 → EReal) : EReal :=
  ((Finset.univ : Finset (Fin 128)).fold max (Ideal.ofBits .bf16 0xFF80#16) fun k => max (f k) (-(f k))) * Ideal.ofBits .f32 0x3B124925#32

/-- A value's code, given its group's inverse scale. -/
def code (v inv : EReal) : EReal :=
  min (Ideal.ofBits .f32 0x43E00000#32) (max (Ideal.ofBits .f32 0xC3E00000#32) (v * inv))

variable {C : ℕ} (w : Wd C) (v : Vec Ideal (Blk C) .bf16)

theorem row_eq {α : Type} (x : (Vc C).Idx → α) (h : (Vc C).ShapeCasts (Rw1 C)) :
    shapeCast (Rw1 C) x h = fun i => x (ix1 (i 1)) := by
  funext i
  refine (shapeCast_addUnit_apply ![C] x h i).trans (congrArg x ?_)
  funext a; fin_cases a; rfl

theorem stack_eq {α : Type} (x : (Rw1 C).Idx → α) (h : (Rw1 C).ShapeCasts (Rw11 C)) :
    shapeCast (Rw11 C) x h = fun i => x (ix2 (i 1) (i 2)) := by
  funext i
  refine (shapeCast_addUnit_apply ![1, C] x h i).trans (congrArg x ?_)
  funext a; fin_cases a <;> rfl

theorem spread_eq {α : Type} {R : ℕ} (x : (Rw1 C).Idx → α) (h : (Rw1 C).Broadcasts ⟨2, ![R, C]⟩) :
    broadcastTo ⟨2, ![R, C]⟩ x h = fun i => x (ix2 0 (i 1)) := by
  funext i
  obtain ⟨r, j, rfl⟩ : ∃ (r : Fin R) (j : Fin C), i = ix2 r j :=
    ⟨i 0, i 1, by funext a; fin_cases a <;> rfl⟩
  show broadcastTo ⟨2, ![R, C]⟩ x h (ix2 r j) = x (ix2 0 j)
  pointwise
  by_cases hC : C = 1
  · subst hC
    obtain rfl : j = 0 := Subsingleton.elim _ _
    rfl
  · exact congrArg (fun z : Fin C => x (ix2 0 z)) (dif_neg hC)

theorem qT_apply (r : Fin 1) (j : Fin C) : qT w v (ix2 r j) = top fun k => v (ix2 k j) := by
  unfold qT top
  rw [row_eq]
  pointwise
  rfl

theorem qB_apply (t : FVec Ideal (Rw1 C) .f32) (r : Fin 1) (j : Fin C) : qB w t (ix2 r j) = biased (t (ix2 r j)) := by
  obtain rfl : r = 0 := Subsingleton.elim _ _
  unfold qB biased pw
  rw [row_eq, spread_eq]
  pointwise

theorem bE_apply (r : Fin 1) (j : Fin C) : bE w v (ix2 r j) = expo (top fun k => v (ix2 k j)) := by
  show Scalar.select (IntOp.ori (IntOp.cmpi .eq (qB w (qT w v) (ix2 r j)) 0#32) (IntOp.cmpi .eq (qB w (qT w v) (ix2 r j)) 255#32)) 0#32
    (IntOp.subi (qB w (qT w v) (ix2 r j)) 126#32) = _
  rw [qB_apply, qT_apply]
  rfl

theorem qScale_apply (r : Fin 1) (j : Fin C) : (qScale (bE w v) : FVec Ideal (Rw1 C) .f32) (ix2 r j) = kScale (top fun k => v (ix2 k j)) := by
  show pw (IntOp.addi (bE w v (ix2 r j)) 127#32) = _
  rw [bE_apply]
  rfl

theorem qInv_apply (r : Fin 1) (j : Fin C) : (qInv (bE w v) : FVec Ideal (Rw1 C) .bf16) (ix2 r j) = kInv (top fun k => v (ix2 k j)) := by
  show pw (IntOp.subi 127#32 (bE w v (ix2 r j))) = _
  rw [bE_apply]
  rfl

theorem bCode_apply (k : Fin 128) (j : Fin C) : bCode w v (ix2 k j) = code (v (ix2 k j)) (kInv (top fun k => v (ix2 k j))) := by
  unfold bCode qCode code
  rw [spread_eq, shapeCast_self]
  rw [← qInv_apply w v 0 j]
  rfl

theorem bScale_apply (q r : Fin 1) (j : Fin C) : bScale w v (ix3 q r j) = kScale (top fun k => v (ix2 k j)) := by
  unfold bScale
  rw [stack_eq]
  exact qScale_apply w v r j

/-- What a value's code stands for. -/
def val (v t : EReal) : EReal := code v (kInv t) * kScale t

theorem qW_apply (k : Fin 128) (j : Fin C) :
    qW w (bCode w v) (qScale (bE w v)) (ix2 k j) = val (v (ix2 k j)) (top fun k => v (ix2 k j)) := by
  unfold qW val
  rw [spread_eq, ← bCode_apply w v, ← qScale_apply w v 0 j]
  rfl

theorem bW_apply (k : Fin 128) (j : Fin C) : bW w v (ix2 k j) = val (v (ix2 k j)) (top fun k => v (ix2 k j)) := by
  unfold bW
  rw [shapeCast_self]
  exact qW_apply w v k j

theorem bWT_apply (j : Fin C) (k : Fin 128) : bWT w v (ix2 j k) = val (v (ix2 k j)) (top fun k => v (ix2 k j)) := by
  unfold bWT
  rw [shapeCast_self, ← qW_apply w v k j]
  generalize qW w (bCode w v) (qScale (bE w v)) = z
  pointwise

end Cert.Hand

end
-- ==== Proof.PiecesValue.lean ====
module

public import proofs.«01_k».proof.Proof.Pieces
public import proofs.«01_k».proof.Proof.BlockValue

@[expose] public section

set_option maxRecDepth 16384

noncomputable section

namespace Cert.Hand

open Idealize.ShloMosaic Idealize.ShloMosaic.TcCoe Idealize.SL.Sem

/-! ## What one step's stores leave, at an index -/

theorem canon_desc {Val : EltTy → Type} [∀ e, Nonempty (Val e)] {S : Shape} {e : EltTy} {N : ℕ} (off : Fin N → Fin S.rank → ℕ) (size : Fin S.rank → ℕ)
    (inb : ∀ n a, off n a + size a ≤ S.size a) (P : Fin N → (⟨S.rank, size⟩ : Shape).Idx → Val e) (y : S.Idx) (v : Val e)
    (hc : ∃ n, ∀ a, off n a ≤ y a ∧ (y a : ℕ) < off n a + size a) (h : ∀ n, View.TileAt y (off n) size (P n) v) :
    View.canon (desc N fun n => (⟨Rect.unit (off n) size (inb n), P n⟩ : View.Piece Val S e)) y = v := by
  refine View.canon_eq_of_allAt _ y v ?_ ?_
  · obtain ⟨n, hn⟩ := hc
    exact ⟨_, (mem_desc _ _ _).2 ⟨n, rfl⟩, (Rect.mem_set_unit (off := off n) (size := size) (inb := inb n)).mpr hn⟩
  · intro p hp
    obtain ⟨n, rfl⟩ := (mem_desc _ _ _).1 hp
    intro x hx
    refine h n x fun a => ?_
    rw [← hx, Rect.emb_apply]
    show off n a + 1 * (x a : ℕ) = _
    omega

variable {C M K : ℕ}

/-- Group `g` of column `c`. -/
def grp (x : Vec Ideal (Wide K) .bf16) (g : Fin 4) (c : Fin K) : Fin 128 → EReal :=
  fun k => x (ix2 ⟨128 * g.val + k.val, by omega⟩ c)

/-- The group of a token. -/
def gOf (r : Fin 512) : Fin 4 := ⟨r.val / 128, by omega⟩

variable {sig : RefSig} (w : Wd C) (hK : K = C * M) (m : Memref sig .tc .vmem (Wide K) .bf16) (hm : m.IsWhole)
  (x : Vec Ideal (Wide K) .bf16) {N : ℕ} (hN : N ≤ 4 * M)

include hK in
theorem lt_col (hN : N ≤ 4 * M) (n : Fin N) (j : Fin C) : C * (n.val / 4) + j.val < K := by
  have h : C * (n.val / 4) + C ≤ K := inb_wide hK hN n 1
  omega

theorem piece_apply (n : Fin N) (k : Fin 128) (j : Fin C) :
    piece hK m hm x hN n (ix2 k j) = x (ix2 ⟨128 * (n.val % 4) + k.val, by omega⟩ ⟨C * (n.val / 4) + j.val, lt_col hK hN n j⟩) := by
  unfold piece
  rw [View.readAt_eq_ld, Memref.IsWhole.read_unread]
  refine View.ld_unit_apply_of _ _ _ _ _ _ fun a => ?_
  fin_cases a <;> rfl

theorem piece_grp (n : Fin N) (j : Fin C) :
    (fun k => piece hK m hm x hN n (ix2 k j)) = grp x ⟨n.val % 4, by omega⟩ ⟨C * (n.val / 4) + j.val, lt_col hK hN n j⟩ :=
  funext fun k => piece_apply hK m hm x hN n k j

/-- A piece that holds (group, column) and where. -/
theorem cover (hK : K = C * M) (c : Fin K) (g : Fin 4) (hc : 4 * (c.val / C) + 4 ≤ N) :
    ∃ n : Fin N, n.val % 4 = g.val ∧ C * (n.val / 4) ≤ c.val ∧ c.val < C * (n.val / 4) + C := by
  have hC : 0 < C := by
    rcases Nat.eq_zero_or_pos C with h | h
    · subst h; have := c.isLt; omega
    · exact h
  refine ⟨⟨4 * (c.val / C) + g.val, by omega⟩, ?_, ?_, ?_⟩
  · show (4 * (c.val / C) + g.val) % 4 = g.val; omega
  · show C * ((4 * (c.val / C) + g.val) / 4) ≤ c.val
    rw [show (4 * (c.val / C) + g.val) / 4 = c.val / C by omega]
    exact Nat.mul_div_le _ _
  · show c.val < C * ((4 * (c.val / C) + g.val) / 4) + C
    rw [show (4 * (c.val / C) + g.val) / 4 = c.val / C by omega]
    exact Nat.lt_mul_div_succ _ hC

theorem reach (hK : K = C * M) (hN : N = 4 * M) (c : Fin K) : 4 * (c.val / C) + 4 ≤ N := by
  have : c.val / C < M := Nat.div_lt_of_lt_mul (hK ▸ c.isLt)
  omega

/-- Where a piece holds a token and a column. -/
theorem held (hK : K = C * M) (hN : N ≤ 4 * M) (n : Fin N) (k : Fin 128) (j : Fin C) (r : Fin 512) (c : Fin K)
    (h0 : r.val = 128 * (n.val % 4) + k.val) (h1 : c.val = C * (n.val / 4) + j.val) :
    (⟨128 * (n.val % 4) + k.val, by omega⟩ : Fin 512) = r ∧ (⟨C * (n.val / 4) + j.val, lt_col hK hN n j⟩ : Fin K) = c
      ∧ (⟨n.val % 4, by omega⟩ : Fin 4) = gOf r :=
  ⟨Fin.ext h0.symm, Fin.ext h1.symm, Fin.ext (by show n.val % 4 = r.val / 128; omega)⟩

theorem codes_apply (hN' : N = 4 * M) (r : Fin 512) (c : Fin K) :
    View.canon (codes w hK m hm x hN) (ix2 r c) = code (x (ix2 r c)) (kInv (top (grp x (gOf r) c))) := by
  refine canon_desc _ _ _ _ _ _ ?_ ?_
  · obtain ⟨n, h1, h2, h3⟩ := cover hK c (gOf r) (reach hK hN' c)
    refine ⟨n, fun a => ?_⟩
    have h1' : n.val % 4 = r.val / 128 := h1
    fin_cases a
    · show 128 * (n.val % 4) ≤ r.val ∧ r.val < 128 * (n.val % 4) + 128; omega
    · exact ⟨h2, h3⟩
  · intro n z hz
    obtain ⟨k, j, rfl⟩ : ∃ (k : Fin 128) (j : Fin C), z = ix2 k j := ⟨z 0, z 1, by funext a; fin_cases a <;> rfl⟩
    have h0 : r.val = 128 * (n.val % 4) + k.val := hz 0
    have h1 : c.val = C * (n.val / 4) + j.val := hz 1
    refine (bCode_apply w _ k j).trans ?_
    rw [piece_grp, piece_apply]
    obtain ⟨e0, e1, e2⟩ := held hK hN n k j r c h0 h1
    rw [e0, e1, e2]

theorem vals_apply (hN' : N = 4 * M) (r : Fin 512) (c : Fin K) :
    View.canon (vals w hK m hm x hN) (ix2 r c) = val (x (ix2 r c)) (top (grp x (gOf r) c)) := by
  refine canon_desc _ _ _ _ _ _ ?_ ?_
  · obtain ⟨n, h1, h2, h3⟩ := cover hK c (gOf r) (reach hK hN' c)
    refine ⟨n, fun a => ?_⟩
    have h1' : n.val % 4 = r.val / 128 := h1
    fin_cases a
    · show 128 * (n.val % 4) ≤ r.val ∧ r.val < 128 * (n.val % 4) + 128; omega
    · exact ⟨h2, h3⟩
  · intro n z hz
    obtain ⟨k, j, rfl⟩ : ∃ (k : Fin 128) (j : Fin C), z = ix2 k j := ⟨z 0, z 1, by funext a; fin_cases a <;> rfl⟩
    have h0 : r.val = 128 * (n.val % 4) + k.val := hz 0
    have h1 : c.val = C * (n.val / 4) + j.val := hz 1
    refine (bW_apply w _ k j).trans ?_
    rw [piece_grp, piece_apply]
    obtain ⟨e0, e1, e2⟩ := held hK hN n k j r c h0 h1
    rw [e0, e1, e2]

theorem valsT_apply (c : Fin K) (r : Fin 512) (hN' : 4 * (c.val / C) + 4 ≤ N) :
    View.canon (valsT w hK m hm x hN) (ix2 c r) = val (x (ix2 r c)) (top (grp x (gOf r) c)) := by
  refine canon_desc _ _ _ _ _ _ ?_ ?_
  · obtain ⟨n, h1, h2, h3⟩ := cover hK c (gOf r) hN'
    refine ⟨n, fun a => ?_⟩
    have h1' : n.val % 4 = r.val / 128 := h1
    fin_cases a
    · exact ⟨h2, h3⟩
    · show 128 * (n.val % 4) ≤ r.val ∧ r.val < 128 * (n.val % 4) + 128; omega
  · intro n z hz
    obtain ⟨j, k, rfl⟩ : ∃ (j : Fin C) (k : Fin 128), z = ix2 j k := ⟨z 0, z 1, by funext a; fin_cases a <;> rfl⟩
    have h0 : r.val = 128 * (n.val % 4) + k.val := hz 1
    have h1 : c.val = C * (n.val / 4) + j.val := hz 0
    refine (bWT_apply w _ j k).trans ?_
    rw [piece_grp, piece_apply]
    obtain ⟨e0, e1, e2⟩ := held hK hN n k j r c h0 h1
    rw [e0, e1, e2]

theorem scales_apply (hN' : N = 4 * M) (q : Fin 1) (g : Fin 4) (c : Fin K) :
    View.canon (scales w hK m hm x hN) (ix3 q g c) = kScale (top (grp x g c)) := by
  obtain rfl : q = 0 := Subsingleton.elim _ _
  refine canon_desc _ _ _ _ _ _ ?_ ?_
  · obtain ⟨n, h1, h2, h3⟩ := cover hK c g (reach hK hN' c)
    refine ⟨n, fun a => ?_⟩
    fin_cases a
    · show 0 ≤ 0 ∧ 0 < 0 + 1; omega
    · show n.val % 4 ≤ g.val ∧ g.val < n.val % 4 + 1; omega
    · exact ⟨h2, h3⟩
  · intro n z hz
    obtain ⟨q, r, j, rfl⟩ : ∃ (q r : Fin 1) (j : Fin C), z = ix3 q r j := ⟨z 0, z 1, z 2, by funext a; fin_cases a <;> rfl⟩
    have h0 : g.val = n.val % 4 + r.val := hz 1
    have h1 : c.val = C * (n.val / 4) + j.val := hz 2
    refine (bScale_apply w _ q r j).trans ?_
    rw [piece_grp]
    rw [show (⟨n.val % 4, by omega⟩ : Fin 4) = g from Fin.ext (by show n.val % 4 = g.val; omega),
      show (⟨C * (n.val / 4) + j.val, lt_col hK hN n j⟩ : Fin K) = c from Fin.ext h1.symm]

end Cert.Hand

end
-- ==== Proof.RunsValue.lean ====
module

public import proofs.«01_k».proof.Proof.Runs
public import proofs.«01_k».proof.Proof.PiecesValue

@[expose] public section

set_option maxRecDepth 16384

noncomputable section

namespace Cert.Hand

open Idealize.ShloMosaic Idealize.ShloMosaic.TcCoe Idealize.SL.Sem
open Cert.KernelIdeal Cert.KernelIdeal.Gen

/-! ## What one step of the kernel leaves, over the reals -/

/-- A block's codes, -/
def codeBlk {K : ℕ} (x : Vec Ideal (Wide K) .bf16) : Vec Ideal (Wide K) .fp8e4m3 :=
  fun i => code (x i) (kInv (top (grp x (gOf (i 0)) (i 1))))
/-- its scales, -/
def scaleBlk {K : ℕ} (x : Vec Ideal (Wide K) .bf16) : Vec Ideal (Scales K) .f32 :=
  fun i => kScale (top (grp x (i 1) (i 2)))
/-- what the codes stand for, -/
def valBlk {K : ℕ} (x : Vec Ideal (Wide K) .bf16) : Vec Ideal (Wide K) .bf16 :=
  fun i => val (x i) (top (grp x (gOf (i 0)) (i 1)))
/-- and the step's share of the weight gradient. -/
def share {K L : ℕ} (x : Vec Ideal (Wide K) .bf16) (y : Vec Ideal (Wide L) .bf16) (i : Fin K) (j : Fin L) : EReal :=
  ∑ k : Fin 512, valBlk x (ix2 k i) * valBlk y (ix2 k j)

theorem ex2 {a b : ℕ} (i : (⟨2, ![a, b]⟩ : Shape).Idx) : ∃ (r : Fin a) (c : Fin b), i = ix2 r c :=
  ⟨i 0, i 1, by funext d; fin_cases d <;> rfl⟩
theorem ex3 {a b c : ℕ} (i : (⟨3, ![a, b, c]⟩ : Shape).Idx) : ∃ (p : Fin a) (q : Fin b) (r : Fin c), i = ix3 p q r :=
  ⟨i 0, i 1, i 2, by funext d; fin_cases d <;> rfl⟩

variable (c : Dev nD) (i : grid0.Coords) (arg1 : Memref sig .tc .vmem S512x4608 .bf16) (harg1 : arg1.IsWhole) (arg2 : Memref sig .tc .vmem S512x1792 .bf16) (harg2 : arg2.IsWhole)
 (arg3 : Memref sig .tc .vmem S4608x1792 .f32) (harg3 : arg3.IsWhole) (arg4 : Memref sig .tc .vmem S512x4608 .fp8e4m3) (harg4 : arg4.IsWhole)
 (arg5 : Memref sig .tc .vmem S1x4x4608 .f32) (harg5 : arg5.IsWhole) (arg6 : Memref sig .tc .vmem S512x1792 .fp8e4m3) (harg6 : arg6.IsWhole)
 (arg7 : Memref sig .tc .vmem S1x4x1792 .f32) (harg7 : arg7.IsWhole) (arg8 : Memref sig .tc .vmem S4608x512 .bf16) (harg8 : arg8.IsWhole) (arg9 : Memref sig .tc .vmem S512x1792 .bf16) (harg9 : arg9.IsWhole)
 (x0 : Vec Ideal S512x4608 .bf16) (x1 : Vec Ideal S512x1792 .bf16) (xo2 : Vec Ideal S4608x1792 .f32)

theorem turned_apply (n : Fin 9) (i k : Fin 512) :
    turned arg1 harg1 arg8 x0 n (ix2 i k) = valBlk x0 (ix2 k (⟨512 * n.val + i.val, by omega⟩ : Fin 4608)) := by
  unfold turned
  rw [View.readCov_eq_canon']
  refine Eq.trans (congrArg (View.canon _) (?_ : _ = ix2 (⟨512 * n.val + i.val, by omega⟩ : Fin 4608) k)) ?_
  · funext a
    apply Fin.ext
    refine (Rect.idx_unit_val _ _ _ _ a).trans ?_
    fin_cases a
    · rfl
    · exact Nat.zero_add _
  · exact valsT_apply (C := 512) (M := 9) (K := 4608) (N := 4 * n.val + 4) wd512 rfl arg1 harg1 x0 (by omega) ⟨512 * n.val + i.val, by omega⟩ k (by
      show 4 * ((512 * n.val + i.val) / 512) + 4 ≤ 4 * n.val + 4
      have := i.isLt
      omega)

theorem others_apply (k : Fin 512) (j : Fin 1792) : others arg2 harg2 arg9 x1 (ix2 k j) = valBlk x1 (ix2 k j) := by
  unfold others
  rw [View.readCov_eq_canon']
  refine Eq.trans (congrArg (View.canon _) (?_ : _ = ix2 k j)) ?_
  · funext a
    apply Fin.ext
    refine (Rect.idx_unit_val _ _ _ _ a).trans ?_
    fin_cases a <;> exact Nat.zero_add _
  · exact vals_apply (C := 256) (M := 7) (K := 1792) (N := 28) wd256 rfl arg2 harg2 x1 (by decide) rfl k j

theorem pay3_apply (p : Vec Ideal S512x1792 .f32) (a : Vec Ideal S512x512 .bf16) (b : Vec Ideal S512x1792 .bf16) (i : Fin 512) (j : Fin 1792) :
    k0_pay3 p a b (ix2 i j) = p (ix2 i j) + ∑ k : Fin 512, a (ix2 i k) * b (ix2 k j) := by
  unfold k0_pay3
  pointwise

/-- One chunk's store to the running total. -/
theorem chunk_apply (p : Vec Ideal S512x1792 .f32) (n : Fin 9) (i : Fin 512) (j : Fin 1792) :
    k0_pay3 p (turned arg1 harg1 arg8 x0 n) (others arg2 harg2 arg9 x1) (ix2 i j)
      = p (ix2 i j) + share x0 x1 (⟨512 * n.val + i.val, by omega⟩ : Fin 4608) j := by
  rw [pay3_apply]
  unfold share
  congr 1
  exact Finset.sum_congr rfl fun k _ => by rw [turned_apply, others_apply]

theorem totalsB_apply (i : Fin 4608) (j : Fin 1792) :
    View.canon (totalsB arg1 harg1 arg2 harg2 arg3 harg3 arg8 arg9 x0 x1 xo2) (ix2 i j) = xo2 (ix2 i j) + share x0 x1 i j := by
  refine canon_desc _ _ _ _ _ _ ?_ ?_
  · refine ⟨⟨i.val / 512, by omega⟩, fun a => ?_⟩
    fin_cases a
    · show 512 * (i.val / 512) ≤ i.val ∧ i.val < 512 * (i.val / 512) + 512; omega
    · show 0 ≤ j.val ∧ j.val < 0 + 1792; omega
  · intro n z hz
    obtain ⟨r, q, rfl⟩ := ex2 z
    have h0 : i.val = 512 * n.val + r.val := hz 0
    have h1 : j.val = 0 + q.val := hz 1
    refine (chunk_apply _ _ _ _ _ _ _ _ _ n r q).trans ?_
    rw [show (⟨512 * n.val + r.val, by omega⟩ : Fin 4608) = i from Fin.ext h0.symm, show q = j from Fin.ext (by omega)]
    refine congrArg (· + _) ?_
    rw [View.readAt_eq_ld, Memref.IsWhole.read_unread]
    refine View.ld_unit_apply_of _ _ _ _ _ _ fun a => ?_
    fin_cases a
    · exact h0
    · show j.val = 0 + j.val; omega

theorem totalsA_apply : ∀ (n : ℕ) (h : n ≤ 9) (i : Fin 4608) (j : Fin 1792),
    View.canon (totalsA arg1 harg1 arg2 harg2 arg3 arg8 arg9 x0 x1 n h) (ix2 i j) = if i.val < 512 * n then share x0 x1 i j else 0
  | 0, h, i, j => by
    rw [if_neg (by omega), totalsA]
    refine View.canon_eq_of_allAt _ _ _ ⟨_, List.mem_cons_self, ?_⟩ (View.allAt_cons_unit _ _ _ _ _ ?_ (View.allAt_nil _ _))
    · refine (Rect.mem_set_unit (s := S4608x1792) (off := ![0, 0]) (size := S4608x1792.size) (inb := by decide)).mpr fun a => ?_
      fin_cases a
      · show 0 ≤ i.val ∧ i.val < 0 + 4608; omega
      · show 0 ≤ j.val ∧ j.val < 0 + 1792; omega
    · intro z _
      exact Ideal.ofBits_zero_f32
  | n + 1, h, i, j => by
    rw [totalsA]
    by_cases hi : 512 * n ≤ i.val ∧ i.val < 512 * n + 512
    · rw [if_pos (by omega)]
      have e : ix2 i j = (Rect.unit (s := S4608x1792) ![512 * n, 0] S512x1792.size (inb_rows ⟨n, h⟩)).emb (ix2 (⟨i.val - 512 * n, by omega⟩ : Fin 512) j) := by
        funext a
        apply Fin.ext
        refine Eq.trans ?_ (Rect.idx_unit_val _ _ _ _ a).symm
        fin_cases a
        · show i.val = 512 * n + (i.val - 512 * n); omega
        · show j.val = 0 + j.val; omega
      rw [e, View.canon_cons_emb]
      refine (chunk_apply _ _ _ _ _ _ _ _ _ ⟨n, h⟩ _ j).trans ?_
      rw [show (⟨512 * n + (i.val - 512 * n), by omega⟩ : Fin 4608) = i from Fin.ext (by show 512 * n + (i.val - 512 * n) = i.val; omega)]
      rw [View.readCov_eq_canon']
      refine (congrArg (· + _) ?_).trans (zero_add _)
      refine (congrArg (View.canon _) e.symm).trans ?_
      rw [totalsA_apply n _ i j, if_neg (by omega)]
    · rw [View.canon_cons_of_not_mem]
      · rw [totalsA_apply n _ i j]
        congr 1
        exact propext (by omega)
      · intro hm
        have := (Rect.mem_set_unit (s := S4608x1792) (off := ![512 * n, 0]) (size := S512x1792.size) (inb := inb_rows ⟨n, h⟩)).mp hm 0
        exact hi this

theorem out_A_2 (hc0 : cond0_0 i) : out0_A_2 c i arg1 harg1 arg2 harg2 arg3 harg3 arg4 harg4 arg5 harg5 arg6 harg6 arg7 harg7 arg8 harg8 arg9 harg9 hc0 x0 x1 = fun q => share x0 x1 (q 0) (q 1) := by
  unfold out0_A_2
  rw [View.read_writes_junk_eq_canon, dw_A]
  funext q
  obtain ⟨r, j, rfl⟩ := ex2 q
  exact (totalsA_apply arg1 harg1 arg2 harg2 arg3 arg8 arg9 x0 x1 9 le_rfl r j).trans (if_pos r.isLt)

theorem out_A_3 (hc0 : cond0_0 i) : out0_A_3 c i arg1 harg1 arg2 harg2 arg3 harg3 arg4 harg4 arg5 harg5 arg6 harg6 arg7 harg7 arg8 harg8 arg9 harg9 hc0 x0 x1 = codeBlk x0 := by
  unfold out0_A_3
  rw [View.read_writes_junk_eq_canon, xc_A]
  funext q
  obtain ⟨r, j, rfl⟩ := ex2 q
  exact codes_apply (C := 512) (M := 9) (K := 4608) (N := 36) wd512 rfl arg1 harg1 x0 (by decide) rfl r j

theorem out_A_4 (hc0 : cond0_0 i) : out0_A_4 c i arg1 harg1 arg2 harg2 arg3 harg3 arg4 harg4 arg5 harg5 arg6 harg6 arg7 harg7 arg8 harg8 arg9 harg9 hc0 x0 x1 = scaleBlk x0 := by
  unfold out0_A_4
  rw [View.read_writes_junk_eq_canon, xs_A]
  funext q
  obtain ⟨p, r, j, rfl⟩ := ex3 q
  exact scales_apply (C := 512) (M := 9) (K := 4608) (N := 36) wd512 rfl arg1 harg1 x0 (by decide) rfl p r j

theorem out_A_5 (hc0 : cond0_0 i) : out0_A_5 c i arg1 harg1 arg2 harg2 arg3 harg3 arg4 harg4 arg5 harg5 arg6 harg6 arg7 harg7 arg8 harg8 arg9 harg9 hc0 x0 x1 = codeBlk x1 := by
  unfold out0_A_5
  rw [View.read_writes_junk_eq_canon, yc_A]
  funext q
  obtain ⟨r, j, rfl⟩ := ex2 q
  exact codes_apply (C := 256) (M := 7) (K := 1792) (N := 28) wd256 rfl arg2 harg2 x1 (by decide) rfl r j

theorem out_A_6 (hc0 : cond0_0 i) : out0_A_6 c i arg1 harg1 arg2 harg2 arg3 harg3 arg4 harg4 arg5 harg5 arg6 harg6 arg7 harg7 arg8 harg8 arg9 harg9 hc0 x0 x1 = scaleBlk x1 := by
  unfold out0_A_6
  rw [View.read_writes_junk_eq_canon, ys_A]
  funext q
  obtain ⟨p, r, j, rfl⟩ := ex3 q
  exact scales_apply (C := 256) (M := 7) (K := 1792) (N := 28) wd256 rfl arg2 harg2 x1 (by decide) rfl p r j

theorem out_B_2 (hc0 : ¬ cond0_0 i) : out0_B_2 c i arg1 harg1 arg2 harg2 arg3 harg3 arg4 harg4 arg5 harg5 arg6 harg6 arg7 harg7 arg8 harg8 arg9 harg9 hc0 x0 x1 xo2 = fun q => xo2 q + share x0 x1 (q 0) (q 1) := by
  unfold out0_B_2
  rw [View.read_writes_junk_eq_canon, dw_B]
  funext q
  obtain ⟨r, j, rfl⟩ := ex2 q
  exact totalsB_apply arg1 harg1 arg2 harg2 arg3 harg3 arg8 arg9 x0 x1 xo2 r j

theorem out_B_3 (hc0 : ¬ cond0_0 i) : out0_B_3 c i arg1 harg1 arg2 harg2 arg3 harg3 arg4 harg4 arg5 harg5 arg6 harg6 arg7 harg7 arg8 harg8 arg9 harg9 hc0 x0 x1 xo2 = codeBlk x0 := by
  unfold out0_B_3
  rw [View.read_writes_junk_eq_canon, xc_B]
  funext q
  obtain ⟨r, j, rfl⟩ := ex2 q
  exact codes_apply (C := 512) (M := 9) (K := 4608) (N := 36) wd512 rfl arg1 harg1 x0 (by decide) rfl r j

theorem out_B_4 (hc0 : ¬ cond0_0 i) : out0_B_4 c i arg1 harg1 arg2 harg2 arg3 harg3 arg4 harg4 arg5 harg5 arg6 harg6 arg7 harg7 arg8 harg8 arg9 harg9 hc0 x0 x1 xo2 = scaleBlk x0 := by
  unfold out0_B_4
  rw [View.read_writes_junk_eq_canon, xs_B]
  funext q
  obtain ⟨p, r, j, rfl⟩ := ex3 q
  exact scales_apply (C := 512) (M := 9) (K := 4608) (N := 36) wd512 rfl arg1 harg1 x0 (by decide) rfl p r j

theorem out_B_5 (hc0 : ¬ cond0_0 i) : out0_B_5 c i arg1 harg1 arg2 harg2 arg3 harg3 arg4 harg4 arg5 harg5 arg6 harg6 arg7 harg7 arg8 harg8 arg9 harg9 hc0 x0 x1 xo2 = codeBlk x1 := by
  unfold out0_B_5
  rw [View.read_writes_junk_eq_canon, yc_B]
  funext q
  obtain ⟨r, j, rfl⟩ := ex2 q
  exact codes_apply (C := 256) (M := 7) (K := 1792) (N := 28) wd256 rfl arg2 harg2 x1 (by decide) rfl r j

theorem out_B_6 (hc0 : ¬ cond0_0 i) : out0_B_6 c i arg1 harg1 arg2 harg2 arg3 harg3 arg4 harg4 arg5 harg5 arg6 harg6 arg7 harg7 arg8 harg8 arg9 harg9 hc0 x0 x1 xo2 = scaleBlk x1 := by
  unfold out0_B_6
  rw [View.read_writes_junk_eq_canon, ys_B]
  funext q
  obtain ⟨p, r, j, rfl⟩ := ex3 q
  exact scales_apply (C := 256) (M := 7) (K := 1792) (N := 28) wd256 rfl arg2 harg2 x1 (by decide) rfl p r j

end Cert.Hand

end
-- ==== Proof.Whole.lean ====
module

public import proofs.«01_k».proof.Proof.BlockValue

@[expose] public section

noncomputable section

namespace Cert.Hand

open Idealize.ShloMosaic

/-! ## The five results over the reals

A matrix of 24576 tokens by `K` columns is cut, column by column, into 192 groups of 128 tokens. `sc` and `inv` give
a group's scale and inverse scale from the greatest absolute value over 448. -/

/-- All tokens, -/
abbrev Tok (K : ℕ) : Shape := ⟨2, ![24576, K]⟩
/-- and all groups, 48 rows of 4. -/
abbrev Grps (K : ℕ) : Shape := ⟨3, ![48, 4, K]⟩

variable {K L : ℕ} (sc inv : EReal → EReal)

/-- The values of a group. -/
def grpT (x : Vec Ideal (Tok K) .bf16) (g : Fin 192) (c : Fin K) : Fin 128 → EReal :=
  fun k => x (ix2 ⟨128 * g.val + k.val, by omega⟩ c)

/-- The greatest absolute value over 448 in a token's group. -/
def topT (x : Vec Ideal (Tok K) .bf16) (r : Fin 24576) (c : Fin K) : EReal :=
  top (grpT x ⟨r.val / 128, by omega⟩ c)

/-- The codes, -/
def codesT (x : Vec Ideal (Tok K) .bf16) : Vec Ideal (Tok K) .fp8e4m3 :=
  fun q => code (x q) (inv (topT x (q 0) (q 1)))

/-- the scales, -/
def scalesT (x : Vec Ideal (Tok K) .bf16) : Vec Ideal (Grps K) .f32 :=
  fun q => sc (top (grpT x (⟨4 * (q 0).val + (q 1).val, by have h0 : (q 0).val < 48 := (q 0).isLt; have h1 : (q 1).val < 4 := (q 1).isLt; omega⟩ : Fin 192) (q 2)))

/-- what a code stands for, -/
def valT (x : Vec Ideal (Tok K) .bf16) (r : Fin 24576) (c : Fin K) : EReal :=
  code (x (ix2 r c)) (inv (topT x r c)) * sc (topT x r c)

/-- and the weight gradient. -/
def gradT (x : Vec Ideal (Tok K) .bf16) (y : Vec Ideal (Tok L) .bf16) : Vec Ideal (⟨2, ![K, L]⟩ : Shape) .f32 :=
  fun q => ∑ r : Fin 24576, valT sc inv x r (q 0) * valT sc inv y r (q 1)

/-! Two pairs of scale and inverse scale that agree on every group give the same results. -/

variable {sc inv} {sc' inv' : EReal → EReal} {x : Vec Ideal (Tok K) .bf16} {y : Vec Ideal (Tok L) .bf16}

theorem codesT_congr (h : ∀ g c, inv (top (grpT x g c)) = inv' (top (grpT x g c))) : codesT inv x = codesT inv' x :=
  funext fun q => congrArg (code (x q)) (h _ _)

theorem scalesT_congr (h : ∀ g c, sc (top (grpT x g c)) = sc' (top (grpT x g c))) : scalesT sc x = scalesT sc' x :=
  funext fun q => h _ _

theorem valT_congr (h : ∀ g c, inv (top (grpT x g c)) = inv' (top (grpT x g c))) (h' : ∀ g c, sc (top (grpT x g c)) = sc' (top (grpT x g c)))
    (r : Fin 24576) (c : Fin K) : valT sc inv x r c = valT sc' inv' x r c :=
  congrArg₂ (· * ·) (congrArg (code (x (ix2 r c))) (h _ _)) (h' _ _)

theorem gradT_congr (hx : ∀ g c, inv (top (grpT x g c)) = inv' (top (grpT x g c))) (hx' : ∀ g c, sc (top (grpT x g c)) = sc' (top (grpT x g c)))
    (hy : ∀ g c, inv (top (grpT y g c)) = inv' (top (grpT y g c))) (hy' : ∀ g c, sc (top (grpT y g c)) = sc' (top (grpT y g c))) :
    gradT sc inv x y = gradT sc' inv' x y :=
  funext fun q => Finset.sum_congr rfl fun r _ => congrArg₂ (· * ·) (valT_congr hx hx' _ _) (valT_congr hy hy' _ _)

end Cert.Hand

end
-- ==== Proof.KernelValue.lean ====
module

public import proofs.«01_k».proof.Proof.RunsValue
public import proofs.«01_k».proof.Proof.Whole
public import proofs.«01_k».proof.Proof.Gen.KernelIdeal.Value

@[expose] public section

set_option maxRecDepth 16384

noncomputable section

namespace Cert.Hand

open Idealize.ShloMosaic Idealize.ShloMosaic.TcCoe Idealize.SL.Sem
open Cert.KernelIdeal Cert.KernelIdeal.Gen
open Idealize.ShloMosaic.Pipeline (Dat)

/-! ## A block of 512 tokens is a stretch of the matrix -/

/-- Block `t` of a matrix. -/
def IsBlk {K : ℕ} (x : Vec Ideal (Tok K) .bf16) (t : Fin 48) (b : Vec Ideal (Wide K) .bf16) : Prop :=
  ∀ (r : Fin 512) (c : Fin K), b (ix2 r c) = x (ix2 ⟨512 * t.val + r.val, by omega⟩ c)

section blocks

variable {K L : ℕ} {x : Vec Ideal (Tok K) .bf16} {y : Vec Ideal (Tok L) .bf16} {t : Fin 48} {b : Vec Ideal (Wide K) .bf16} {d : Vec Ideal (Wide L) .bf16}

theorem grp_blk (h : IsBlk x t b) (g : Fin 4) (c : Fin K) : grp b g c = grpT x ⟨4 * t.val + g.val, by omega⟩ c := by
  funext k
  unfold grp grpT
  rw [h]
  exact congrArg (fun r => x (ix2 r c)) (Fin.ext (by show 512 * t.val + (128 * g.val + k.val) = 128 * (4 * t.val + g.val) + k.val; omega))

theorem top_blk (h : IsBlk x t b) (r : Fin 512) (c : Fin K) : top (grp b (gOf r) c) = topT x ⟨512 * t.val + r.val, by omega⟩ c := by
  rw [grp_blk h]
  unfold topT
  exact congrArg (fun g => top (grpT x g c)) (Fin.ext (by show 4 * t.val + r.val / 128 = (512 * t.val + r.val) / 128; omega))

theorem codeBlk_blk (h : IsBlk x t b) (r : Fin 512) (c : Fin K) :
    codeBlk b (ix2 r c) = codesT kInv x (ix2 ⟨512 * t.val + r.val, by omega⟩ c) := by
  show code (b (ix2 r c)) (kInv (top (grp b (gOf r) c))) = code (x (ix2 _ c)) (kInv (topT x _ c))
  rw [h, top_blk h]
  rfl

theorem scaleBlk_blk (h : IsBlk x t b) (p : Fin 1) (g : Fin 4) (c : Fin K) :
    scaleBlk b (ix3 p g c) = scalesT kScale x (ix3 t g c) := by
  show kScale (top (grp b g c)) = kScale (top (grpT x _ c))
  rw [grp_blk h]
  rfl

theorem valBlk_blk (h : IsBlk x t b) (r : Fin 512) (c : Fin K) :
    valBlk b (ix2 r c) = valT kScale kInv x ⟨512 * t.val + r.val, by omega⟩ c := by
  show val (b (ix2 r c)) (top (grp b (gOf r) c)) = _
  rw [h, top_blk h]
  rfl

/-- A token's contribution to the weight gradient, zero past the last one. -/
def term (x : Vec Ideal (Tok K) .bf16) (y : Vec Ideal (Tok L) .bf16) (i : Fin K) (j : Fin L) (r : ℕ) : EReal :=
  if h : r < 24576 then valT kScale kInv x ⟨r, h⟩ i * valT kScale kInv y ⟨r, h⟩ j else 0

theorem share_blk (h : IsBlk x t b) (h' : IsBlk y t d) (i : Fin K) (j : Fin L) :
    share b d i j = ∑ r ∈ Finset.range 512, term x y i j (512 * t.val + r) := by
  rw [Finset.sum_range]
  refine Finset.sum_congr rfl fun r _ => ?_
  rw [valBlk_blk h, valBlk_blk h', term, dif_pos]

theorem sum_term (i : Fin K) (j : Fin L) : ∑ r ∈ Finset.range 24576, term x y i j r = gradT kScale kInv x y (ix2 i j) := by
  rw [Finset.sum_range]
  exact Finset.sum_congr rfl fun r _ => dif_pos r.isLt

end blocks

/-! ## The kernel's blocks -/

variable (m : (ℓ : Loc nD τ sig) → Buf (Elt Ideal) ℓ) (c : Dev nD)

/-- A grid point as a block number. -/
def blkNo (t : Fin cfg0.N) : Fin 48 := ⟨t.val, N_0 ▸ t.isLt⟩

/-- The first operand's matrix, -/
abbrev xMat : Vec Ideal (Tok 4608) .bf16 := V m c main_v0
/-- and the second's. -/
abbrev yMat : Vec Ideal (Tok 1792) .bf16 := V m c main_v1

theorem at_0 : ∀ t : Fin cfg0.N, win0_0.index t (0 : Fin 2) = t.val ∧ win0_0.index t (1 : Fin 2) = 0 :=
  (by decide +kernel : ∀ t : Fin grid0.N, _)

theorem at_1 : ∀ t : Fin cfg0.N, win0_1.index t (0 : Fin 2) = t.val ∧ win0_1.index t (1 : Fin 2) = 0 :=
  (by decide +kernel : ∀ t : Fin grid0.N, _)

theorem at_2 : ∀ t : Fin cfg0.N, win0_2.index t (0 : Fin 2) = 0 ∧ win0_2.index t (1 : Fin 2) = 0 :=
  (by decide +kernel : ∀ t : Fin grid0.N, _)

theorem at_3 : ∀ t : Fin cfg0.N, win0_3.index t (0 : Fin 2) = t.val ∧ win0_3.index t (1 : Fin 2) = 0 :=
  (by decide +kernel : ∀ t : Fin grid0.N, _)

theorem at_4 : ∀ t : Fin cfg0.N, win0_4.index t (0 : Fin 3) = t.val ∧ win0_4.index t (1 : Fin 3) = 0 ∧ win0_4.index t (2 : Fin 3) = 0 :=
  (by decide +kernel : ∀ t : Fin grid0.N, _)

theorem at_5 : ∀ t : Fin cfg0.N, win0_5.index t (0 : Fin 2) = t.val ∧ win0_5.index t (1 : Fin 2) = 0 :=
  (by decide +kernel : ∀ t : Fin grid0.N, _)

theorem at_6 : ∀ t : Fin cfg0.N, win0_6.index t (0 : Fin 3) = t.val ∧ win0_6.index t (1 : Fin 3) = 0 ∧ win0_6.index t (2 : Fin 3) = 0 :=
  (by decide +kernel : ∀ t : Fin grid0.N, _)

theorem isBlk_0 (t : Fin cfg0.N) : IsBlk (xMat m c) (blkNo t) (iblk m c 0 t) := by
  intro r q
  obtain ⟨e0, e1⟩ := at_0 t
  show xMat m c (((cfg0.win 0).blk t).view.emb (ix2 r q)) = _
  congr 1
  funext a
  apply Fin.ext
  match a with
  | ⟨0, _⟩ => show win0_0.index t (0 : Fin 2) * 512 + 1 * r.val = 512 * t.val + r.val; omega
  | ⟨1, _⟩ => show win0_0.index t (1 : Fin 2) * 4608 + 1 * q.val = q.val; omega

theorem isBlk_1 (t : Fin cfg0.N) : IsBlk (yMat m c) (blkNo t) (iblk m c 1 t) := by
  intro r q
  obtain ⟨e0, e1⟩ := at_1 t
  show yMat m c (((cfg0.win 1).blk t).view.emb (ix2 r q)) = _
  congr 1
  funext a
  apply Fin.ext
  match a with
  | ⟨0, _⟩ => show win0_1.index t (0 : Fin 2) * 512 + 1 * r.val = 512 * t.val + r.val; omega
  | ⟨1, _⟩ => show win0_1.index t (1 : Fin 2) * 1792 + 1 * q.val = q.val; omega

theorem step_3 (t : Fin cfg0.N) : (outsAt0 m c t.val t.isLt).2.1 = codeBlk (K := 4608) (iblk m c 0 t) := by
  by_cases h : t.val % 48 = 0
  · simp only [outsAt0_A m c t h]
    exact out_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) ((hcond0_0 t).mpr h)
  · simp only [outsAt0_B m c t h]
    exact out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (outsAt0 m c (t.val - 1) (Nat.lt_of_le_of_lt (Nat.sub_le _ _) t.isLt)).1 (fun e => h ((hcond0_0 t).mp e))

theorem step_4 (t : Fin cfg0.N) : (outsAt0 m c t.val t.isLt).2.2.1 = scaleBlk (K := 4608) (iblk m c 0 t) := by
  by_cases h : t.val % 48 = 0
  · simp only [outsAt0_A m c t h]
    exact out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) ((hcond0_0 t).mpr h)
  · simp only [outsAt0_B m c t h]
    exact out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (outsAt0 m c (t.val - 1) (Nat.lt_of_le_of_lt (Nat.sub_le _ _) t.isLt)).1 (fun e => h ((hcond0_0 t).mp e))

theorem step_5 (t : Fin cfg0.N) : (outsAt0 m c t.val t.isLt).2.2.2.1 = codeBlk (K := 1792) (iblk m c 1 t) := by
  by_cases h : t.val % 48 = 0
  · simp only [outsAt0_A m c t h]
    exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) ((hcond0_0 t).mpr h)
  · simp only [outsAt0_B m c t h]
    exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (outsAt0 m c (t.val - 1) (Nat.lt_of_le_of_lt (Nat.sub_le _ _) t.isLt)).1 (fun e => h ((hcond0_0 t).mp e))

theorem step_6 (t : Fin cfg0.N) : (outsAt0 m c t.val t.isLt).2.2.2.2 = scaleBlk (K := 1792) (iblk m c 1 t) := by
  by_cases h : t.val % 48 = 0
  · simp only [outsAt0_A m c t h]
    exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) ((hcond0_0 t).mpr h)
  · simp only [outsAt0_B m c t h]
    exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (outsAt0 m c (t.val - 1) (Nat.lt_of_le_of_lt (Nat.sub_le _ _) t.isLt)).1 (fun e => h ((hcond0_0 t).mp e))

theorem first_2 (t : Fin cfg0.N) (h : t.val % 48 = 0) (i : Fin 4608) (j : Fin 1792) :
    (outsAt0 m c t.val t.isLt).1 (ix2 i j) = share (K := 4608) (L := 1792) (iblk m c 0 t) (iblk m c 1 t) i j := by
  simp only [outsAt0_A m c t h]
  exact congrFun (out_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) ((hcond0_0 t).mpr h)) (ix2 i j)

theorem next_2 (t : Fin cfg0.N) (h : ¬ t.val % 48 = 0) (i : Fin 4608) (j : Fin 1792) :
    (outsAt0 m c t.val t.isLt).1 (ix2 i j)
      = (outsAt0 m c (t.val - 1) (Nat.lt_of_le_of_lt (Nat.sub_le _ _) t.isLt)).1 (ix2 i j) + share (K := 4608) (L := 1792) (iblk m c 0 t) (iblk m c 1 t) i j := by
  simp only [outsAt0_B m c t h]
  exact congrFun (out_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (outsAt0 m c (t.val - 1) (Nat.lt_of_le_of_lt (Nat.sub_le _ _) t.isLt)).1 (fun e => h ((hcond0_0 t).mp e))) (ix2 i j)

/-- The running total after point `n`. -/
theorem total : ∀ (n : ℕ) (h : n < cfg0.N) (i : Fin 4608) (j : Fin 1792),
    (outsAt0 m c n h).1 (ix2 i j) = ∑ r ∈ Finset.range (512 * n + 512), term (xMat m c) (yMat m c) i j r
  | 0, h, i, j => by
    refine (first_2 m c ⟨0, h⟩ (Nat.zero_mod 48) i j).trans ?_
    refine (share_blk (isBlk_0 m c ⟨0, h⟩) (isBlk_1 m c ⟨0, h⟩) i j).trans ?_
    refine Finset.sum_congr rfl fun r _ => congrArg _ ?_
    show 512 * 0 + r = r
    omega
  | n + 1, h, i, j => by
    have h48 : n + 1 < 48 := Nat.lt_of_lt_of_eq h N_0
    refine (next_2 m c ⟨n + 1, h⟩ (by show ¬ (n + 1) % 48 = 0; omega) i j).trans ?_
    rw [Finset.sum_range_add]
    refine congrArg₂ (· + ·) (total n _ i j) ((share_blk (isBlk_0 m c ⟨n + 1, h⟩) (isBlk_1 m c ⟨n + 1, h⟩) i j).trans ?_)
    exact Finset.sum_congr rfl fun r _ => rfl

/-! ## The kernel's arrays after the run -/

theorem mem_blk_2 (t : Fin cfg0.N) (i : Fin 4608) (j : Fin 1792) : (ix2 i j : S4608x1792.Idx) ∈ ((cfg0.win 2).blk t).view.set := by
  show ix2 i j ∈ ((View.whole main_v2_0).slice (win0_2.rect t)).set
  obtain ⟨e0, e1⟩ := at_2 t
  rw [View.set_slice_whole, Rect.mem_set_unit]
  intro a
  match a with
  | ⟨0, _⟩ => show win0_2.index t (0 : Fin 2) * 4608 ≤ i.val ∧ i.val < win0_2.index t (0 : Fin 2) * 4608 + 4608; omega
  | ⟨1, _⟩ => show win0_2.index t (1 : Fin 2) * 1792 ≤ j.val ∧ j.val < win0_2.index t (1 : Fin 2) * 1792 + 1792; omega

theorem kernel_2 : (dats m 0 c).arrAt 2 cfg0.N = gradT kScale kInv (xMat m c) (yMat m c) := by
  refine (dats m 0 c).arrAt_eq_of_cover 2 (gradT kScale kInv (xMat m c) (yMat m c)) (fun t hf => ?_) fun q => ?_
  · have h47 : t.val % 48 = 47 := (flush0_2 t).mp hf
    have hN : t.val < 48 := Nat.lt_of_lt_of_eq t.isLt N_0
    have ht : t.val = 47 := by omega
    obtain ⟨e0, e1⟩ := at_2 t
    rw [Cert.KernelIdeal.Value.flushed2]
    funext q
    obtain ⟨i, j, rfl⟩ := ex2 (a := 4608) (b := 1792) q
    have e : (outsAt0 m c t.val t.isLt).1 (ix2 i j) = gradT kScale kInv (xMat m c) (yMat m c) (ix2 i j) := by
      rw [← sum_term, total m c t.val t.isLt i j, ht]
    generalize gradT kScale kInv (xMat m c) (yMat m c) = G at e ⊢
    show (outsAt0 m c t.val t.isLt).1 (ix2 i j) = G (((cfg0.win 2).blk t).view.emb (ix2 i j))
    refine e.trans ?_
    congr 1
    funext a
    apply Fin.ext
    match a with
    | ⟨0, _⟩ => show i.val = win0_2.index t (0 : Fin 2) * 4608 + 1 * i.val; omega
    | ⟨1, _⟩ => show j.val = win0_2.index t (1 : Fin 2) * 1792 + 1 * j.val; omega
  · obtain ⟨i, j, rfl⟩ := ex2 (a := 4608) (b := 1792) q
    exact ⟨⟨47, Nat.lt_of_lt_of_eq (by decide) N_0.symm⟩, (flush0_2 _).mpr rfl, mem_blk_2 _ i j⟩

theorem mem_blk_3 (t : Fin cfg0.N) (r : Fin 24576) (j : Fin 4608) (h : t.val = r.val / 512) : (ix2 r j : S24576x4608.Idx) ∈ ((cfg0.win 3).blk t).view.set := by
  show ix2 r j ∈ ((View.whole main_v2_1).slice (win0_3.rect t)).set
  obtain ⟨e0, e1⟩ := at_3 t
  rw [View.set_slice_whole, Rect.mem_set_unit]
  intro a
  match a with
  | ⟨0, _⟩ => show win0_3.index t (0 : Fin 2) * 512 ≤ r.val ∧ r.val < win0_3.index t (0 : Fin 2) * 512 + 512; omega
  | ⟨1, _⟩ => show win0_3.index t (1 : Fin 2) * 4608 ≤ j.val ∧ j.val < win0_3.index t (1 : Fin 2) * 4608 + 4608; omega

theorem kernel_3 : (dats m 0 c).arrAt 3 cfg0.N = codesT kInv (xMat m c) := by
  refine (dats m 0 c).arrAt_eq_of_cover 3 (codesT kInv (xMat m c)) (fun t _ => ?_) fun q => ?_
  · obtain ⟨e0, e1⟩ := at_3 t
    rw [Cert.KernelIdeal.Value.flushed3, step_3]
    funext q
    obtain ⟨r, j, rfl⟩ := ex2 (a := 512) (b := 4608) q
    show codeBlk (iblk m c 0 t) (ix2 r j) = codesT kInv (xMat m c) (((cfg0.win 3).blk t).view.emb (ix2 r j))
    refine (codeBlk_blk (isBlk_0 m c t) r j).trans ?_
    congr 1
    funext a
    apply Fin.ext
    match a with
    | ⟨0, _⟩ => show 512 * t.val + r.val = win0_3.index t (0 : Fin 2) * 512 + 1 * r.val; omega
    | ⟨1, _⟩ => show j.val = win0_3.index t (1 : Fin 2) * 4608 + 1 * j.val; omega
  · obtain ⟨r, j, rfl⟩ := ex2 (a := 24576) (b := 4608) q
    have ht : r.val / 512 < 48 := by omega
    exact ⟨⟨r.val / 512, Nat.lt_of_lt_of_eq ht N_0.symm⟩, flush0_3 _, mem_blk_3 _ r j rfl⟩

theorem mem_blk_4 (t : Fin cfg0.N) (s : Fin 48) (g : Fin 4) (j : Fin 4608) (h : t.val = s.val) : (ix3 s g j : S48x4x4608.Idx) ∈ ((cfg0.win 4).blk t).view.set := by
  show ix3 s g j ∈ ((View.whole main_v2_2).slice (win0_4.rect t)).set
  obtain ⟨e0, e1, e2⟩ := at_4 t
  rw [View.set_slice_whole, Rect.mem_set_unit]
  intro a
  match a with
  | ⟨0, _⟩ => show win0_4.index t (0 : Fin 3) * 1 ≤ s.val ∧ s.val < win0_4.index t (0 : Fin 3) * 1 + 1; omega
  | ⟨1, _⟩ => show win0_4.index t (1 : Fin 3) * 4 ≤ g.val ∧ g.val < win0_4.index t (1 : Fin 3) * 4 + 4; omega
  | ⟨2, _⟩ => show win0_4.index t (2 : Fin 3) * 4608 ≤ j.val ∧ j.val < win0_4.index t (2 : Fin 3) * 4608 + 4608; omega

theorem kernel_4 : (dats m 0 c).arrAt 4 cfg0.N = scalesT kScale (xMat m c) := by
  refine (dats m 0 c).arrAt_eq_of_cover 4 (scalesT kScale (xMat m c)) (fun t _ => ?_) fun q => ?_
  · obtain ⟨e0, e1, e2⟩ := at_4 t
    rw [Cert.KernelIdeal.Value.flushed4, step_4]
    funext q
    obtain ⟨p, g, j, rfl⟩ := ex3 (a := 1) (b := 4) (c := 4608) q
    show scaleBlk (iblk m c 0 t) (ix3 p g j) = scalesT kScale (xMat m c) (((cfg0.win 4).blk t).view.emb (ix3 p g j))
    refine (scaleBlk_blk (isBlk_0 m c t) p g j).trans ?_
    congr 1
    funext a
    apply Fin.ext
    match a with
    | ⟨0, _⟩ => show t.val = win0_4.index t (0 : Fin 3) * 1 + 1 * p.val; omega
    | ⟨1, _⟩ => show g.val = win0_4.index t (1 : Fin 3) * 4 + 1 * g.val; omega
    | ⟨2, _⟩ => show j.val = win0_4.index t (2 : Fin 3) * 4608 + 1 * j.val; omega
  · obtain ⟨s, g, j, rfl⟩ := ex3 (a := 48) (b := 4) (c := 4608) q
    exact ⟨⟨s.val, Nat.lt_of_lt_of_eq s.isLt N_0.symm⟩, flush0_4 _, mem_blk_4 _ s g j rfl⟩

theorem mem_blk_5 (t : Fin cfg0.N) (r : Fin 24576) (j : Fin 1792) (h : t.val = r.val / 512) : (ix2 r j : S24576x1792.Idx) ∈ ((cfg0.win 5).blk t).view.set := by
  show ix2 r j ∈ ((View.whole main_v2_3).slice (win0_5.rect t)).set
  obtain ⟨e0, e1⟩ := at_5 t
  rw [View.set_slice_whole, Rect.mem_set_unit]
  intro a
  match a with
  | ⟨0, _⟩ => show win0_5.index t (0 : Fin 2) * 512 ≤ r.val ∧ r.val < win0_5.index t (0 : Fin 2) * 512 + 512; omega
  | ⟨1, _⟩ => show win0_5.index t (1 : Fin 2) * 1792 ≤ j.val ∧ j.val < win0_5.index t (1 : Fin 2) * 1792 + 1792; omega

theorem kernel_5 : (dats m 0 c).arrAt 5 cfg0.N = codesT kInv (yMat m c) := by
  refine (dats m 0 c).arrAt_eq_of_cover 5 (codesT kInv (yMat m c)) (fun t _ => ?_) fun q => ?_
  · obtain ⟨e0, e1⟩ := at_5 t
    rw [Cert.KernelIdeal.Value.flushed5, step_5]
    funext q
    obtain ⟨r, j, rfl⟩ := ex2 (a := 512) (b := 1792) q
    show codeBlk (iblk m c 1 t) (ix2 r j) = codesT kInv (yMat m c) (((cfg0.win 5).blk t).view.emb (ix2 r j))
    refine (codeBlk_blk (isBlk_1 m c t) r j).trans ?_
    congr 1
    funext a
    apply Fin.ext
    match a with
    | ⟨0, _⟩ => show 512 * t.val + r.val = win0_5.index t (0 : Fin 2) * 512 + 1 * r.val; omega
    | ⟨1, _⟩ => show j.val = win0_5.index t (1 : Fin 2) * 1792 + 1 * j.val; omega
  · obtain ⟨r, j, rfl⟩ := ex2 (a := 24576) (b := 1792) q
    have ht : r.val / 512 < 48 := by omega
    exact ⟨⟨r.val / 512, Nat.lt_of_lt_of_eq ht N_0.symm⟩, flush0_5 _, mem_blk_5 _ r j rfl⟩

theorem mem_blk_6 (t : Fin cfg0.N) (s : Fin 48) (g : Fin 4) (j : Fin 1792) (h : t.val = s.val) : (ix3 s g j : S48x4x1792.Idx) ∈ ((cfg0.win 6).blk t).view.set := by
  show ix3 s g j ∈ ((View.whole main_v2_4).slice (win0_6.rect t)).set
  obtain ⟨e0, e1, e2⟩ := at_6 t
  rw [View.set_slice_whole, Rect.mem_set_unit]
  intro a
  match a with
  | ⟨0, _⟩ => show win0_6.index t (0 : Fin 3) * 1 ≤ s.val ∧ s.val < win0_6.index t (0 : Fin 3) * 1 + 1; omega
  | ⟨1, _⟩ => show win0_6.index t (1 : Fin 3) * 4 ≤ g.val ∧ g.val < win0_6.index t (1 : Fin 3) * 4 + 4; omega
  | ⟨2, _⟩ => show win0_6.index t (2 : Fin 3) * 1792 ≤ j.val ∧ j.val < win0_6.index t (2 : Fin 3) * 1792 + 1792; omega

theorem kernel_6 : (dats m 0 c).arrAt 6 cfg0.N = scalesT kScale (yMat m c) := by
  refine (dats m 0 c).arrAt_eq_of_cover 6 (scalesT kScale (yMat m c)) (fun t _ => ?_) fun q => ?_
  · obtain ⟨e0, e1, e2⟩ := at_6 t
    rw [Cert.KernelIdeal.Value.flushed6, step_6]
    funext q
    obtain ⟨p, g, j, rfl⟩ := ex3 (a := 1) (b := 4) (c := 1792) q
    show scaleBlk (iblk m c 1 t) (ix3 p g j) = scalesT kScale (yMat m c) (((cfg0.win 6).blk t).view.emb (ix3 p g j))
    refine (scaleBlk_blk (isBlk_1 m c t) p g j).trans ?_
    congr 1
    funext a
    apply Fin.ext
    match a with
    | ⟨0, _⟩ => show t.val = win0_6.index t (0 : Fin 3) * 1 + 1 * p.val; omega
    | ⟨1, _⟩ => show g.val = win0_6.index t (1 : Fin 3) * 4 + 1 * g.val; omega
    | ⟨2, _⟩ => show j.val = win0_6.index t (2 : Fin 3) * 1792 + 1 * j.val; omega
  · obtain ⟨s, g, j, rfl⟩ := ex3 (a := 48) (b := 4) (c := 1792) q
    exact ⟨⟨s.val, Nat.lt_of_lt_of_eq s.isLt N_0.symm⟩, flush0_6 _, mem_blk_6 _ s g j rfl⟩

end Cert.Hand

end
-- ==== Proof.RefValue.lean ====
module

public import proofs.«01_k».proof.Proof.Whole
public import proofs.«01_k».proof.Proof.Gen.ReferenceIdeal.Value

@[expose] public section

set_option maxRecDepth 16384

noncomputable section

namespace Cert.Hand

open Idealize.ShloMosaic
open Cert.ReferenceIdeal Cert.ReferenceIdeal.Gen

/-! ## The reference's arithmetic, element by element -/

/-- The greatest absolute values over 448, -/
def refT {C : ℕ} (h : (⟨4, ![4, 48, 128, C]⟩ : Shape).Reduces [2] ⟨3, ![4, 48, C]⟩) (x : FVec Ideal (⟨4, ![4, 48, 128, C]⟩ : Shape) .bf16) : FVec Ideal (⟨3, ![4, 48, C]⟩ : Shape) .f32 :=
  mulf (extf .f32 (multiReduction .maximumf [2] ⟨3, ![4, 48, C]⟩ (absf x) 0xFF80#16 h (.inr rfl) rfl : FVec Ideal ⟨3, ![4, 48, C]⟩ .bf16) bitsLt_bf16_f32 : FVec Ideal ⟨3, ![4, 48, C]⟩ .f32) (broadcast ⟨3, ![4, 48, C]⟩ (Scalar.ofBits .f32 0x3B124925#32))

theorem refT_at {C : ℕ} (h : (⟨4, ![4, 48, 128, C]⟩ : Shape).Reduces [2] ⟨3, ![4, 48, C]⟩) (x : FVec Ideal (⟨4, ![4, 48, 128, C]⟩ : Shape) .bf16) (p : Fin 4) (s : Fin 48) (c : Fin C) :
    refT h x (ix3 p s c) = top fun k => x (ix4 p s k c) := by
  unfold refT top
  pointwise
  rfl

/-- their exponents, -/
def refE {S : Shape} (t : FVec Ideal S .f32) : FVec Ideal S .f32 :=
  select (ori (cmpf .olt t (broadcast S (Scalar.ofBits .f32 0x00800000#32))) (cmpf .oeq t (broadcast S (Scalar.ofBits .f32 0x7F800000#32))))
    (broadcast S (Scalar.ofBits .f32 0x00000000#32))
    (addf (floor (divf (log t) (log (broadcast S (Scalar.ofBits .f32 0x40000000#32))))) (broadcast S (Scalar.ofBits .f32 0x3F800000#32)))

theorem refE_at {S : Shape} (t : FVec Ideal S .f32) (i : S.Idx) : refE t i = rExp (t i) := rfl

theorem exp2_at {S : Shape} {φ : FTy} (v : FVec Ideal S φ) (i : S.Idx) : (exp2 v : FVec Ideal S φ) i = Ideal.exp2 (v i) := rfl

/-- the inverse scales, -/
def refI {S : Shape} (e : FVec Ideal S .f32) : FVec Ideal S .f32 :=
  exp2 (subf (broadcast S (Scalar.ofBits .f32 0x00000000#32)) e)

theorem refI_at {S : Shape} (e : FVec Ideal S .f32) (i : S.Idx) : refI e i = Ideal.exp2 (Ideal.ofBits .f32 0x00000000#32 - e i) := rfl

/-- the codes, -/
def refC {S : Shape} (x : FVec Ideal S .bf16) (v : FVec Ideal S .f32) : FVec Ideal S .fp8e4m3 :=
  truncf .fp8e4m3 (minimumf (broadcast S (Scalar.ofBits .f32 0x43E00000#32)) (maximumf (broadcast S (Scalar.ofBits .f32 0xC3E00000#32)) (mulf (extf .f32 x bitsLt_bf16_f32) v))) bitsLt_fp8e4m3_f32

theorem refC_at {S : Shape} (x : FVec Ideal S .bf16) (v : FVec Ideal S .f32) (i : S.Idx) : refC x v i = code (x i) (v i) := rfl

/-- what they stand for, -/
def refW {S : Shape} (x : FVec Ideal S .fp8e4m3) (v : FVec Ideal S .bf16) : FVec Ideal S .bf16 :=
  mulf (extf .bf16 x bitsLt_fp8e4m3_bf16) v

theorem refW_at {S : Shape} (x : FVec Ideal S .fp8e4m3) (v : FVec Ideal S .bf16) (i : S.Idx) : refW x v i = (x i * v i : EReal) := rfl

theorem truncf_at {S : Shape} (x : FVec Ideal S .f32) (i : S.Idx) : (truncf .bf16 x bitsLt_bf16_f32 : FVec Ideal S .bf16) i = x i := rfl

/-- and the weight gradient's product. -/
theorem dot_at (u : FVec Ideal S24576x4608 .bf16) (v : FVec Ideal S24576x1792 .bf16) (i : Fin 4608) (j : Fin 1792) :
    k0_pay2 u v (ix2 i j) = (∑ r : Fin 24576, (u (ix2 r i) * v (ix2 r j) : EReal) : EReal) := by
  unfold k0_pay2
  pointwise

/-! ## One operand of the reference, of any width -/

/-- The operand, -/
abbrev Arg (C : ℕ) : Shape := ⟨3, ![4, 6144, C]⟩
/-- cut into groups, -/
abbrev Grp (C : ℕ) : Shape := ⟨4, ![4, 48, 128, C]⟩
/-- and one number per group, in its three shapes. -/
abbrev Sc (C : ℕ) : Shape := ⟨3, ![4, 48, C]⟩
abbrev Sc1 (C : ℕ) : Shape := ⟨4, ![4, 48, 1, C]⟩
abbrev ScT (C : ℕ) : Shape := ⟨3, ![48, 4, C]⟩

/-- What the reference's operations ask of the shapes at width `C`, and where its reshapes read. -/
structure RefWd (C : ℕ) : Prop where
  cut : (Arg C).ShapeCasts (Grp C)
  red : (Grp C).Reduces [2] (Sc C)
  one : (Sc C).ShapeCasts (Sc1 C)
  wide : (Sc1 C).Broadcasts (Grp C)
  flat : (Grp C).ShapeCasts (Tok C)
  rows : (Sc C).ShapeCasts (ScT C)
  toks : (Arg C).ShapeCasts (Tok C)
  cut_at : ∀ (x : (Arg C).Idx → EReal) (p : Fin 4) (s : Fin 48) (k : Fin 128) (c : Fin C),
    shapeCast (Grp C) x cut (ix4 p s k c) = shapeCast (Tok C) x toks (ix2 ⟨128 * (48 * p.val + s.val) + k.val, by omega⟩ c)
  wide_at : ∀ (x : (Sc C).Idx → EReal) (p : Fin 4) (s : Fin 48) (k : Fin 128) (c : Fin C),
    broadcastTo (Grp C) (shapeCast (Sc1 C) x one) wide (ix4 p s k c) = x (ix3 p s c)
  flat_at : ∀ (x : (Grp C).Idx → EReal) (r : Fin 24576) (c : Fin C),
    shapeCast (Tok C) x flat (ix2 r c) = x (ix4 ⟨r.val / 6144, by omega⟩ ⟨r.val / 128 % 48, by omega⟩ ⟨r.val % 128, by omega⟩ c)
  rows_at : ∀ (x : (Sc C).Idx → EReal) (s : Fin 48) (g : Fin 4) (c : Fin C),
    shapeCast (ScT C) x rows (ix3 s g c) = x (ix3 ⟨s.val / 12, by omega⟩ ⟨s.val % 12 * 4 + g.val, by omega⟩ c)

section operand

variable {C : ℕ} (w : RefWd C) (a : FVec Ideal (Arg C) .bf16)

/-- The operand's groups, -/
def opG : FVec Ideal (Grp C) .bf16 := shapeCast (Grp C) a w.cut
/-- their exponents, -/
def opE : FVec Ideal (Sc C) .f32 := refE (refT w.red (opG w a))
/-- a number per group, spread over the group, -/
def opB {φ : FTy} (v : FVec Ideal (Sc C) φ) : FVec Ideal (Grp C) φ := broadcastTo (Grp C) (shapeCast (Sc1 C) v w.one) w.wide
/-- the codes, -/
def opC : FVec Ideal (Grp C) .fp8e4m3 := refC (opG w a) (opB w (refI (opE w a)))
/-- and what they stand for. -/
def opW : FVec Ideal (Grp C) .bf16 := refW (opC w a) (opB w (truncf .bf16 (exp2 (opE w a)) bitsLt_bf16_f32))

theorem opE_at (p : Fin 4) (s : Fin 48) (c : Fin C) :
    opE w a (ix3 p s c) = rExp (top (grpT (shapeCast (Tok C) a w.toks) ⟨48 * p.val + s.val, by omega⟩ c)) := by
  unfold opE
  rw [refE_at, refT_at]
  exact congrArg (fun f => rExp (top f)) (funext fun k => w.cut_at a p s k c)

theorem opS_at (p : Fin 4) (s : Fin 48) (c : Fin C) :
    (exp2 (opE w a) : FVec Ideal (Sc C) .f32) (ix3 p s c) = rScale (top (grpT (shapeCast (Tok C) a w.toks) ⟨48 * p.val + s.val, by omega⟩ c)) := by
  rw [exp2_at, opE_at]
  rfl

theorem opB_at {φ : FTy} (v : FVec Ideal (Sc C) φ) (p : Fin 4) (s : Fin 48) (k : Fin 128) (c : Fin C) :
    opB w v (ix4 p s k c) = v (ix3 p s c) := w.wide_at v p s k c

theorem opC_at (p : Fin 4) (s : Fin 48) (k : Fin 128) (c : Fin C) :
    opC w a (ix4 p s k c) = code (shapeCast (Tok C) a w.toks (ix2 ⟨128 * (48 * p.val + s.val) + k.val, by omega⟩ c))
      (rInv (top (grpT (shapeCast (Tok C) a w.toks) ⟨48 * p.val + s.val, by omega⟩ c))) := by
  unfold opC
  rw [refC_at, opB_at, refI_at, opE_at]
  exact congrArg (fun v => code v _) (w.cut_at a p s k c)

theorem opW_at (p : Fin 4) (s : Fin 48) (k : Fin 128) (c : Fin C) :
    opW w a (ix4 p s k c) = (code (shapeCast (Tok C) a w.toks (ix2 ⟨128 * (48 * p.val + s.val) + k.val, by omega⟩ c))
      (rInv (top (grpT (shapeCast (Tok C) a w.toks) ⟨48 * p.val + s.val, by omega⟩ c)))
        * rScale (top (grpT (shapeCast (Tok C) a w.toks) ⟨48 * p.val + s.val, by omega⟩ c)) : EReal) := by
  unfold opW
  rw [refW_at, opB_at, truncf_at, opC_at, opS_at]

/-- A token from its batch, group and place, -/
theorem tok_split (r : Fin 24576) : 128 * (48 * (r.val / 6144) + r.val / 128 % 48) + r.val % 128 = r.val := by omega
/-- and its group. -/
theorem grp_split (r : Fin 24576) : 48 * (r.val / 6144) + r.val / 128 % 48 = r.val / 128 := by omega

/-- The codes as stored, -/
theorem codes_op : (shapeCast (Tok C) (opC w a) w.flat : FVec Ideal (Tok C) .fp8e4m3) = codesT rInv (shapeCast (Tok C) a w.toks) := by
  funext q
  obtain ⟨r, c, rfl⟩ : ∃ (r : Fin 24576) (c : Fin C), q = ix2 r c := ⟨q 0, q 1, by funext d; fin_cases d <;> rfl⟩
  refine (w.flat_at (opC w a) r c).trans ((opC_at w a _ _ _ c).trans ?_)
  exact congrArg₂ (fun r' g => code (shapeCast (Tok C) a w.toks (ix2 r' c)) (rInv (top (grpT (shapeCast (Tok C) a w.toks) g c))))
    (Fin.ext (tok_split r)) (Fin.ext (grp_split r))

/-- the scales as stored, -/
theorem scales_op : (shapeCast (ScT C) (exp2 (opE w a) : FVec Ideal (Sc C) .f32) w.rows : FVec Ideal (ScT C) .f32) = scalesT rScale (shapeCast (Tok C) a w.toks) := by
  funext q
  obtain ⟨s, g, c, rfl⟩ : ∃ (s : Fin 48) (g : Fin 4) (c : Fin C), q = ix3 s g c := ⟨q 0, q 1, q 2, by funext d; fin_cases d <;> rfl⟩
  refine (w.rows_at _ s g c).trans ((opS_at w a _ _ c).trans ?_)
  refine congrArg (fun g' => rScale (top (grpT (shapeCast (Tok C) a w.toks) g' c))) (Fin.ext ?_)
  show 48 * (s.val / 12) + (s.val % 12 * 4 + g.val) = 4 * s.val + g.val
  omega

/-- and the values that the codes stand for, as they enter the product. -/
theorem vals_op (r : Fin 24576) (c : Fin C) :
    (shapeCast (Tok C) (opW w a) w.flat : FVec Ideal (Tok C) .bf16) (ix2 r c) = valT rScale rInv (shapeCast (Tok C) a w.toks) r c := by
  refine (w.flat_at (opW w a) r c).trans ((opW_at w a _ _ _ c).trans ?_)
  exact congrArg₂ (fun r' g => code (shapeCast (Tok C) a w.toks (ix2 r' c)) (rInv (top (grpT (shapeCast (Tok C) a w.toks) g c)))
      * rScale (top (grpT (shapeCast (Tok C) a w.toks) g c)))
    (Fin.ext (tok_split r)) (Fin.ext (grp_split r))

end operand

/-! ## The reference's two operands -/

/-- The first operand's shapes, -/
theorem xWd (h : S4x6144x4608.ShapeCasts (Tok 4608)) : RefWd 4608 where
  cut := shapeCasts_S4x6144x4608_S4x48x128x4608
  red := reduces_S4x48x128x4608_S4x48x4608
  one := shapeCasts_S4x48x4608_S4x48x1x4608
  wide := broadcasts_S4x48x1x4608_S4x48x128x4608
  flat := shapeCasts_S4x48x128x4608_S24576x4608
  rows := shapeCasts_S4x48x4608_S48x4x4608
  toks := h
  cut_at x p s k c := by
    pointwise
    exact congrArg (fun r => x (ix3 p r c)) (Fin.ext (by show s.val * 128 + k.val = (128 * (48 * p.val + s.val) + k.val) % 6144; omega))
  wide_at x p s k c := by pointwise
  flat_at x r c := by pointwise
  rows_at x s g c := by pointwise

/-- and the second's. -/
theorem yWd (h : S4x6144x1792.ShapeCasts (Tok 1792)) : RefWd 1792 where
  cut := shapeCasts_S4x6144x1792_S4x48x128x1792
  red := reduces_S4x48x128x1792_S4x48x1792
  one := shapeCasts_S4x48x1792_S4x48x1x1792
  wide := broadcasts_S4x48x1x1792_S4x48x128x1792
  flat := shapeCasts_S4x48x128x1792_S24576x1792
  rows := shapeCasts_S4x48x1792_S48x4x1792
  toks := h
  cut_at x p s k c := by
    pointwise
    exact congrArg (fun r => x (ix3 p r c)) (Fin.ext (by show s.val * 128 + k.val = (128 * (48 * p.val + s.val) + k.val) % 6144; omega))
  wide_at x p s k c := by pointwise
  flat_at x r c := by pointwise
  rows_at x s g c := by pointwise

theorem x_codes (a : Vec Ideal S4x6144x4608 .bf16) (h : S4x6144x4608.ShapeCasts (Tok 4608)) : k0_pay7 a = codesT rInv (shapeCast (Tok 4608) a h) :=
  codes_op (xWd h) a

theorem x_scales (a : Vec Ideal S4x6144x4608 .bf16) (h : S4x6144x4608.ShapeCasts (Tok 4608)) : k0_pay15 (k0_pay5 a) = scalesT rScale (shapeCast (Tok 4608) a h) :=
  scales_op (xWd h) a

theorem y_codes (a : Vec Ideal S4x6144x1792 .bf16) (h : S4x6144x1792.ShapeCasts (Tok 1792)) : k0_pay13 a = codesT rInv (shapeCast (Tok 1792) a h) :=
  codes_op (yWd h) a

theorem y_scales (a : Vec Ideal S4x6144x1792 .bf16) (h : S4x6144x1792.ShapeCasts (Tok 1792)) : k0_pay1 (k0_pay11 a) = scalesT rScale (shapeCast (Tok 1792) a h) :=
  scales_op (yWd h) a

/-- The reference's weight gradient. -/
theorem ref_grad (a : Vec Ideal S4x6144x4608 .bf16) (a' : Vec Ideal S4x6144x1792 .bf16) (h : S4x6144x4608.ShapeCasts (Tok 4608)) (h' : S4x6144x1792.ShapeCasts (Tok 1792)) :
    k0_pay2 (k0_pay8 a) (k0_pay14 a') = gradT rScale rInv (shapeCast (Tok 4608) a h) (shapeCast (Tok 1792) a' h') := by
  funext q
  obtain ⟨i, j, rfl⟩ : ∃ (i : Fin 4608) (j : Fin 1792), q = ix2 i j := ⟨q 0, q 1, by funext d; fin_cases d <;> rfl⟩
  rw [dot_at]
  refine Finset.sum_congr rfl fun r _ => ?_
  exact congrArg₂ (fun u v : EReal => u * v) (vals_op (xWd h) a r i) (vals_op (yWd h') a' r j)

end Cert.Hand

end
-- ==== Proof.Range.lean ====
module

public import proofs.«01_k».proof.Proof.Whole

@[expose] public section

set_option maxRecDepth 16384

noncomputable section

namespace Cert.Hand

open Idealize.ShloMosaic

/-! ## What the precondition gives: a group's greatest absolute value over 448 is infinite or below `2^126` -/

/-- A value of the bfloat16 range: of absolute value at most the greatest bfloat16, or infinite. -/
def InRange (v : EReal) : Prop := max v (-v) ≤ Ideal.ofBits .f32 0x7F7F0000#32 ∨ max v (-v) = ⊤

theorem inRange_of (v : EReal) (h : IntOp.ori (Ideal.cmp .ole (max v (-v)) (Ideal.ofBits .f32 0x7F7F0000#32))
    (Ideal.cmp .oeq (max v (-v)) (Ideal.ofBits .f32 0x7F800000#32)) = 1#1) : InRange v := by
  by_contra hn
  unfold InRange at hn
  rw [not_or] at hn
  rw [top_eq] at h
  simp only [Ideal.cmp, IntOp.ori, hn.1, hn.2, decide_false] at h
  exact absurd h (by decide)

theorem big_eq : Ideal.ofBits .f32 0x7F7F0000#32 = ((16711680 * (2 : ℝ) ^ (104 : ℤ) : ℝ) : EReal) := by
  simp only [Ideal.ofBits, Ideal.ieee, Nat.reduceAdd,
    show (0x7F7F0000#32).extractLsb' 31 1 = 0#1 by decide, show ((0x7F7F0000#32).extractLsb' 23 8).toNat = 254 by decide,
    show ((0x7F7F0000#32).extractLsb' 0 23).toNat = 8323072 by decide]
  norm_num

theorem over_eq : Ideal.ofBits .f32 0x3B124925#32 = ((9586981 * (2 : ℝ) ^ (-32 : ℤ) : ℝ) : EReal) := by
  simp only [Ideal.ofBits, Ideal.ieee, Nat.reduceAdd,
    show (0x3B124925#32).extractLsb' 31 1 = 0#1 by decide, show ((0x3B124925#32).extractLsb' 23 8).toNat = 118 by decide,
    show ((0x3B124925#32).extractLsb' 0 23).toNat = 1198373 by decide]
  norm_num

theorem least_eq : Ideal.ofBits .bf16 0xFF80#16 = ⊥ := by
  simp only [Ideal.ofBits, Ideal.ieee, Nat.reduceAdd,
    show (0xFF80#16).extractLsb' 15 1 = 1#1 by decide, show ((0xFF80#16).extractLsb' 7 8).toNat = 255 by decide,
    show ((0xFF80#16).extractLsb' 0 7).toNat = 0 by decide]
  norm_num

theorem abs_nonneg (v : EReal) : 0 ≤ max v (-v) := by
  rcases le_total 0 v with h | h
  · exact le_max_of_le_left h
  · exact le_max_of_le_right (neg_zero (G := EReal) ▸ EReal.neg_le_neg_iff.2 h)

theorem top_range (f : Fin 128 → EReal) (hf : ∀ k, InRange (f k)) :
    0 ≤ top f ∧ (top f = ⊤ ∨ top f < (((2 : ℝ) ^ (126 : ℤ) : ℝ) : EReal)) := by
  have hc : (0 : ℝ) < 9586981 * (2 : ℝ) ^ (-32 : ℤ) := by positivity
  unfold top
  rw [over_eq]
  have hM : ∀ x : EReal, x = (Finset.univ : Finset (Fin 128)).fold max (Ideal.ofBits .bf16 0xFF80#16) (fun k => max (f k) (-(f k))) →
      0 ≤ x ∧ (x = ⊤ ∨ x ≤ Ideal.ofBits .f32 0x7F7F0000#32) := by
    rintro x rfl
    refine ⟨Finset.le_fold_max _ |>.2 (Or.inr ⟨0, Finset.mem_univ _, abs_nonneg _⟩), ?_⟩
    by_cases h : ∃ k, max (f k) (-(f k)) = ⊤
    · obtain ⟨k, hk⟩ := h
      exact Or.inl (top_le_iff.1 ((Finset.le_fold_max _).2 (Or.inr ⟨k, Finset.mem_univ _, hk.ge⟩)))
    · refine Or.inr ((Finset.fold_max_le _).2 ⟨?_, fun k _ => (hf k).resolve_right fun hk => h ⟨k, hk⟩⟩)
      rw [least_eq]
      exact bot_le
  generalize (Finset.univ : Finset (Fin 128)).fold max (Ideal.ofBits .bf16 0xFF80#16) (fun k => max (f k) (-(f k))) = x at hM ⊢
  obtain ⟨h0, h⟩ := hM x rfl
  by_cases hx : x = ⊤
  · rw [hx, EReal.top_mul_coe_of_pos hc]
    exact ⟨le_top, Or.inl rfl⟩
  have hb := h.resolve_left hx
  rw [big_eq] at hb
  lift x to ℝ using ⟨hx, (lt_of_lt_of_le EReal.bot_lt_zero h0).ne'⟩
  have h0' : (0 : ℝ) ≤ x := EReal.coe_le_coe_iff.1 h0
  have hb' := EReal.coe_le_coe_iff.1 hb
  rw [← EReal.coe_mul]
  refine ⟨EReal.coe_le_coe_iff.2 (mul_nonneg h0' hc.le), Or.inr (EReal.coe_lt_coe_iff.2 ?_)⟩
  refine lt_of_le_of_lt (mul_le_mul_of_nonneg_right hb' hc.le) ?_
  norm_num

/-- So on such a matrix the kernel's scales and the reference's are the same. -/
theorem scales_agree {K : ℕ} (x : Vec Ideal (Tok K) .bf16) (hx : ∀ i, InRange (x i)) (g : Fin 192) (c : Fin K) :
    kScale (top (grpT x g c)) = rScale (top (grpT x g c)) ∧ kInv (top (grpT x g c)) = rInv (top (grpT x g c)) := by
  obtain ⟨h0, h1⟩ := top_range (grpT x g c) fun k => hx _
  exact scale_eq _ h0 h1

end Cert.Hand

end
-- ==== Proof.Agree.lean ====
module

public import proofs.«01_k».proof.Defs
public import proofs.«01_k».proof.Proof.KernelValue
public import proofs.«01_k».proof.Proof.RefValue
public import proofs.«01_k».proof.Proof.Range
public import proofs.«01_k».proof.Proof.Gen.Pre_bf16_range
public import Idealize.ShloMosaic.Lib.StableHlo.Run

@[expose] public section

set_option maxRecDepth 16384

noncomputable section

namespace Cert.Hand

open Idealize.ShloMosaic Idealize.ShloMosaic.TcCoe Idealize.SL.Sem

/-! ## The kernel and the reference leave the same five results -/

section launch

open Cert.KernelIdeal Cert.KernelIdeal.Gen

variable (m : (ℓ : Loc nD τ sig) → Buf (Elt Ideal) ℓ) (c : Dev nD)

/-- The first matrix is the first argument, reshaped, -/
theorem xMat_eq : xMat m c = shapeCast (Tok 4608) (m ((c : Thread nD τ).loc main_arg0)) shapeCasts_S4x6144x4608_S24576x4608 := by
  unfold xMat V hostOps0
  after_results
  rfl

/-- and the second the second. -/
theorem yMat_eq : yMat m c = shapeCast (Tok 1792) (m ((c : Thread nD τ).loc main_arg1)) shapeCasts_S4x6144x1792_S24576x1792 := by
  unfold yMat V hostOps0
  after_results
  rfl

end launch

/-- An argument in range, reshaped, is in range. -/
theorem inRange_cast {S T : Shape} (x : S.Idx → EReal) (h : S.ShapeCasts T) (hx : ∀ i, InRange (x i)) (j : T.Idx) :
    InRange (shapeCast T x h j) := hx _

section pre

open Cert.KernelIdeal

variable [Cert.Pre_bf16_range.Facts] (m : (ℓ : Loc nD τ sig) → Buf (Elt Ideal) ℓ) (hpre : Cert.Pre_KernelIdeal_bf16_range m) (c : Dev nD)

include hpre in
theorem arg0_range (i : S4x6144x4608.Idx) : InRange (m ((c : Thread nD τ).loc main_arg0) i : EReal) :=
  inRange_of _ (congrFun (hpre c).1 i)

include hpre in
theorem arg1_range (i : S4x6144x1792.Idx) : InRange (m ((c : Thread nD τ).loc main_arg1) i : EReal) :=
  inRange_of _ (congrFun (hpre c).2 i)

end pre

theorem algebraic : @Cert.algebraic_KernelIdeal_ReferenceIdeal_pre_bf16_range Cert.KernelIdeal.Gen.facts Cert.ReferenceIdeal.Gen.facts Cert.Pre_bf16_range.Gen.facts := by
  intro m ρ m' ρ' hpre hag
  refine ⟨_, _, _, _, _, Cert.KernelIdeal.Value.run_blocks m ρ, (θ_run Cert.ReferenceIdeal.defs _ _).mono (fun r h c => ?_) (Cert.ReferenceIdeal.Value.run m' ρ')⟩
  obtain ⟨h0, h1, h2, h3, h4, h5, h6⟩ := h c
  obtain ⟨e0, e1⟩ := hag c
  have hx := scales_agree (xMat m c) (by rw [xMat_eq]; exact inRange_cast _ _ (arg0_range m hpre c))
  have hy := scales_agree (yMat m c) (by rw [yMat_eq]; exact inRange_cast _ _ (arg1_range m hpre c))
  refine ⟨h0.trans ?_, h1.trans ?_, h2.trans ?_, h3.trans ?_, h4.trans ?_, h5, h6⟩
  · rw [e0, e1, kernel_2, gradT_congr (fun g c => (hx g c).2) (fun g c => (hx g c).1) (fun g c => (hy g c).2) (fun g c => (hy g c).1), xMat_eq, yMat_eq]
    exact ref_grad _ _ _ _
  · rw [e0, kernel_3, codesT_congr (fun g c => (hx g c).2), xMat_eq]
    exact x_codes _ _
  · rw [e0, kernel_4, scalesT_congr (fun g c => (hx g c).1), xMat_eq]
    exact x_scales _ _
  · rw [e1, kernel_5, codesT_congr (fun g c => (hy g c).2), yMat_eq]
    exact y_codes _ _
  · rw [e1, kernel_6, scalesT_congr (fun g c => (hy g c).1), yMat_eq]
    exact y_scales _ _

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_bf16_range
public import proofs.«01_k».proof.Proof.Gen.KernelIdeal.Value
public import proofs.«01_k».proof.Proof.Gen.ReferenceIdeal.Value
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_bf16_range.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  Cert.Hand.algebraic⟩

end Cert.Proof

end
